-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1000 : Shape := ⟨2, ![16384, 1000]⟩
abbrev S10 : Shape := ⟨1, ![10]⟩
abbrev S_ : Shape := ⟨0, ![]⟩
abbrev S6 : Shape := ⟨1, ![6]⟩
abbrev S16 : Shape := ⟨1, ![16]⟩
abbrev S1000x16384 : Shape := ⟨2, ![1000, 16384]⟩
abbrev S128x128 : Shape := ⟨2, ![128, 128]⟩
abbrev S1000x2048 : Shape := ⟨2, ![1000, 2048]⟩
abbrev S16x128 : Shape := ⟨2, ![16, 128]⟩
abbrev S2048 : Shape := ⟨1, ![2048]⟩
abbrev S16384 : Shape := ⟨1, ![16384]⟩
abbrev S512 : Shape := ⟨1, ![512]⟩
abbrev S1 : Shape := ⟨1, ![1]⟩
abbrev S1x1 : Shape := ⟨2, ![1, 1]⟩

abbrev nBuf : Table → Nat
  | .hbm => 15
  | .local .tc .vmem => 4
  | .local .scVector .vmem => 3
  | _ => 0

abbrev bufTy : (tb : Table) → Fin (nBuf tb) → BufTy
  | .hbm, ⟨0, _⟩ => ⟨S16384x1000, .f32⟩
  | .hbm, ⟨1, _⟩ => ⟨S10, .f32⟩
  | .hbm, ⟨2, _⟩ => ⟨S_, .f32⟩
  | .hbm, ⟨3, _⟩ => ⟨S6, .f32⟩
  | .hbm, ⟨4, _⟩ => ⟨S16, .f32⟩
  | .hbm, ⟨5, _⟩ => ⟨S1000x16384, .f32⟩
  | .hbm, ⟨6, _⟩ => ⟨S128x128, .f32⟩
  | .hbm, ⟨7, _⟩ => ⟨S16384, .f32⟩
  | .hbm, ⟨8, _⟩ => ⟨S16384, .f32⟩
  | .hbm, ⟨9, _⟩ => ⟨S1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x1, .f32⟩
  | .hbm, ⟨14, _⟩ => ⟨S16384x1000, .f32⟩
  | .local .tc .vmem, ⟨0, _⟩ => ⟨S1000x2048, .f32⟩
  | .local .tc .vmem, ⟨1, _⟩ => ⟨S1000x2048, .f32⟩
  | .local .tc .vmem, ⟨2, _⟩ => ⟨S16x128, .f32⟩
  | .local .tc .vmem, ⟨3, _⟩ => ⟨S16x128, .f32⟩
  | .local .scVector .vmem, ⟨0, _⟩ => ⟨S512, .f32⟩
  | .local .scVector .vmem, ⟨1, _⟩ => ⟨S16, .f32⟩
  | .local .scVector .vmem, ⟨2, _⟩ => ⟨S512, .f32⟩
  | _, _ => ⟨S16384x1000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v4_scv : Ref sig .scVector := ⟨.hbm, 7, rfl⟩
abbrev main_v1_scv : Ref sig .scVector := ⟨.hbm, 4, rfl⟩
abbrev main_v5_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]

def k1_chk1 (v76 : IVec S16 32) : Prop :=
  (∀ a x, ((![v76] : Fin 1 → IVec S16 32) a x).toNat < S16.size a)
theorem k1_idx1_inb : ∀ (v76 : IVec S16 32) (k1_hw1 : k1_chk1 v76), ∀ a x, ((![v76] : Fin 1 → IVec S16 32) a x).toNat < S16.size a := fun v76 k1_hw1 => k1_hw1

def k1_chk2 (v160 : IVec S16 32) : Prop :=
  (∀ a x, ((![v160] : Fin 1 → IVec S16 32) a x).toNat < S16.size a)
theorem k1_idx2_inb : ∀ (v160 : IVec S16 32) (k1_hw2 : k1_chk2 v160), ∀ a x, ((![v160] : Fin 1 → IVec S16 32) a x).toNat < S16.size a := fun v160 k1_hw2 => k1_hw2

def k1_chk3 (v244 : IVec S16 32) : Prop :=
  (∀ a x, ((![v244] : Fin 1 → IVec S16 32) a x).toNat < S16.size a)
theorem k1_idx3_inb : ∀ (v244 : IVec S16 32) (k1_hw3 : k1_chk3 v244), ∀ a x, ((![v244] : Fin 1 → IVec S16 32) a x).toNat < S16.size a := fun v244 k1_hw3 => k1_hw3

def k1_chk4 (v328 : IVec S16 32) : Prop :=
  (∀ a x, ((![v328] : Fin 1 → IVec S16 32) a x).toNat < S16.size a)
theorem k1_idx4_inb : ∀ (v328 : IVec S16 32) (k1_hw4 : k1_chk4 v328), ∀ a x, ((![v328] : Fin 1 → IVec S16 32) a x).toNat < S16.size a := fun v328 k1_hw4 => k1_hw4

def k1_chk5 (v412 : IVec S16 32) : Prop :=
  (∀ a x, ((![v412] : Fin 1 → IVec S16 32) a x).toNat < S16.size a)
theorem k1_idx5_inb : ∀ (v412 : IVec S16 32) (k1_hw5 : k1_chk5 v412), ∀ a x, ((![v412] : Fin 1 → IVec S16 32) a x).toNat < S16.size a := fun v412 k1_hw5 => k1_hw5

def k1_chk6 (v496 : IVec S16 32) : Prop :=
  (∀ a x, ((![v496] : Fin 1 → IVec S16 32) a x).toNat < S16.size a)
theorem k1_idx6_inb : ∀ (v496 : IVec S16 32) (k1_hw6 : k1_chk6 v496), ∀ a x, ((![v496] : Fin 1 → IVec S16 32) a x).toNat < S16.size a := fun v496 k1_hw6 => k1_hw6

def k1_chk7 (v580 : IVec S16 32) : Prop :=
  (∀ a x, ((![v580] : Fin 1 → IVec S16 32) a x).toNat < S16.size a)
theorem k1_idx7_inb : ∀ (v580 : IVec S16 32) (k1_hw7 : k1_chk7 v580), ∀ a x, ((![v580] : Fin 1 → IVec S16 32) a x).toNat < S16.size a := fun v580 k1_hw7 => k1_hw7

def k1_chk8 (v664 : IVec S16 32) : Prop :=
  (∀ a x, ((![v664] : Fin 1 → IVec S16 32) a x).toNat < S16.size a)
theorem k1_idx8_inb : ∀ (v664 : IVec S16 32) (k1_hw8 : k1_chk8 v664), ∀ a x, ((![v664] : Fin 1 → IVec S16 32) a x).toNat < S16.size a := fun v664 k1_hw8 => k1_hw8

def k1_chk9 (v748 : IVec S16 32) : Prop :=
  (∀ a x, ((![v748] : Fin 1 → IVec S16 32) a x).toNat < S16.size a)
theorem k1_idx9_inb : ∀ (v748 : IVec S16 32) (k1_hw9 : k1_chk9 v748), ∀ a x, ((![v748] : Fin 1 → IVec S16 32) a x).toNat < S16.size a := fun v748 k1_hw9 => k1_hw9

def k1_chk10 (v832 : IVec S16 32) : Prop :=
  (∀ a x, ((![v832] : Fin 1 → IVec S16 32) a x).toNat < S16.size a)
theorem k1_idx10_inb : ∀ (v832 : IVec S16 32) (k1_hw10 : k1_chk10 v832), ∀ a x, ((![v832] : Fin 1 → IVec S16 32) a x).toNat < S16.size a := fun v832 k1_hw10 => k1_hw10

def k1_chk11 (v916 : IVec S16 32) : Prop :=
  (∀ a x, ((![v916] : Fin 1 → IVec S16 32) a x).toNat < S16.size a)
theorem k1_idx11_inb : ∀ (v916 : IVec S16 32) (k1_hw11 : k1_chk11 v916), ∀ a x, ((![v916] : Fin 1 → IVec S16 32) a x).toNat < S16.size a := fun v916 k1_hw11 => k1_hw11

def k1_chk12 (v1000 : IVec S16 32) : Prop :=
  (∀ a x, ((![v1000] : Fin 1 → IVec S16 32) a x).toNat < S16.size a)
theorem k1_idx12_inb : ∀ (v1000 : IVec S16 32) (k1_hw12 : k1_chk12 v1000), ∀ a x, ((![v1000] : Fin 1 → IVec S16 32) a x).toNat < S16.size a := fun v1000 k1_hw12 => k1_hw12

def k1_chk13 (v1084 : IVec S16 32) : Prop :=
  (∀ a x, ((![v1084] : Fin 1 → IVec S16 32) a x).toNat < S16.size a)
theorem k1_idx13_inb : ∀ (v1084 : IVec S16 32) (k1_hw13 : k1_chk13 v1084), ∀ a x, ((![v1084] : Fin 1 → IVec S16 32) a x).toNat < S16.size a := fun v1084 k1_hw13 => k1_hw13

def k1_chk14 (v1168 : IVec S16 32) : Prop :=
  (∀ a x, ((![v1168] : Fin 1 → IVec S16 32) a x).toNat < S16.size a)
theorem k1_idx14_inb : ∀ (v1168 : IVec S16 32) (k1_hw14 : k1_chk14 v1168), ∀ a x, ((![v1168] : Fin 1 → IVec S16 32) a x).toNat < S16.size a := fun v1168 k1_hw14 => k1_hw14

def k1_chk15 (v1252 : IVec S16 32) : Prop :=
  (∀ a x, ((![v1252] : Fin 1 → IVec S16 32) a x).toNat < S16.size a)
theorem k1_idx15_inb : ∀ (v1252 : IVec S16 32) (k1_hw15 : k1_chk15 v1252), ∀ a x, ((![v1252] : Fin 1 → IVec S16 32) a x).toNat < S16.size a := fun v1252 k1_hw15 => k1_hw15

def k1_chk16 (v1336 : IVec S16 32) : Prop :=
  (∀ a x, ((![v1336] : Fin 1 → IVec S16 32) a x).toNat < S16.size a)
theorem k1_idx16_inb : ∀ (v1336 : IVec S16 32) (k1_hw16 : k1_chk16 v1336), ∀ a x, ((![v1336] : Fin 1 → IVec S16 32) a x).toNat < S16.size a := fun v1336 k1_hw16 => k1_hw16

def k1_chk17 (v1420 : IVec S16 32) : Prop :=
  (∀ a x, ((![v1420] : Fin 1 → IVec S16 32) a x).toNat < S16.size a)
theorem k1_idx17_inb : ∀ (v1420 : IVec S16 32) (k1_hw17 : k1_chk17 v1420), ∀ a x, ((![v1420] : Fin 1 → IVec S16 32) a x).toNat < S16.size a := fun v1420 k1_hw17 => k1_hw17

def k1_chk18 (v1504 : IVec S16 32) : Prop :=
  (∀ a x, ((![v1504] : Fin 1 → IVec S16 32) a x).toNat < S16.size a)
theorem k1_idx18_inb : ∀ (v1504 : IVec S16 32) (k1_hw18 : k1_chk18 v1504), ∀ a x, ((![v1504] : Fin 1 → IVec S16 32) a x).toNat < S16.size a := fun v1504 k1_hw18 => k1_hw18

def k1_chk19 (v1588 : IVec S16 32) : Prop :=
  (∀ a x, ((![v1588] : Fin 1 → IVec S16 32) a x).toNat < S16.size a)
theorem k1_idx19_inb : ∀ (v1588 : IVec S16 32) (k1_hw19 : k1_chk19 v1588), ∀ a x, ((![v1588] : Fin 1 → IVec S16 32) a x).toNat < S16.size a := fun v1588 k1_hw19 => k1_hw19

def k1_chk20 (v1672 : IVec S16 32) : Prop :=
  (∀ a x, ((![v1672] : Fin 1 → IVec S16 32) a x).toNat < S16.size a)
theorem k1_idx20_inb : ∀ (v1672 : IVec S16 32) (k1_hw20 : k1_chk20 v1672), ∀ a x, ((![v1672] : Fin 1 → IVec S16 32) a x).toNat < S16.size a := fun v1672 k1_hw20 => k1_hw20

def k1_chk21 (v1756 : IVec S16 32) : Prop :=
  (∀ a x, ((![v1756] : Fin 1 → IVec S16 32) a x).toNat < S16.size a)
theorem k1_idx21_inb : ∀ (v1756 : IVec S16 32) (k1_hw21 : k1_chk21 v1756), ∀ a x, ((![v1756] : Fin 1 → IVec S16 32) a x).toNat < S16.size a := fun v1756 k1_hw21 => k1_hw21

def k1_chk22 (v1840 : IVec S16 32) : Prop :=
  (∀ a x, ((![v1840] : Fin 1 → IVec S16 32) a x).toNat < S16.size a)
theorem k1_idx22_inb : ∀ (v1840 : IVec S16 32) (k1_hw22 : k1_chk22 v1840), ∀ a x, ((![v1840] : Fin 1 → IVec S16 32) a x).toNat < S16.size a := fun v1840 k1_hw22 => k1_hw22

def k1_chk23 (v1924 : IVec S16 32) : Prop :=
  (∀ a x, ((![v1924] : Fin 1 → IVec S16 32) a x).toNat < S16.size a)
theorem k1_idx23_inb : ∀ (v1924 : IVec S16 32) (k1_hw23 : k1_chk23 v1924), ∀ a x, ((![v1924] : Fin 1 → IVec S16 32) a x).toNat < S16.size a := fun v1924 k1_hw23 => k1_hw23

def k1_chk24 (v2008 : IVec S16 32) : Prop :=
  (∀ a x, ((![v2008] : Fin 1 → IVec S16 32) a x).toNat < S16.size a)
theorem k1_idx24_inb : ∀ (v2008 : IVec S16 32) (k1_hw24 : k1_chk24 v2008), ∀ a x, ((![v2008] : Fin 1 → IVec S16 32) a x).toNat < S16.size a := fun v2008 k1_hw24 => k1_hw24

def k1_chk25 (v2092 : IVec S16 32) : Prop :=
  (∀ a x, ((![v2092] : Fin 1 → IVec S16 32) a x).toNat < S16.size a)
theorem k1_idx25_inb : ∀ (v2092 : IVec S16 32) (k1_hw25 : k1_chk25 v2092), ∀ a x, ((![v2092] : Fin 1 → IVec S16 32) a x).toNat < S16.size a := fun v2092 k1_hw25 => k1_hw25

def k1_chk26 (v2176 : IVec S16 32) : Prop :=
  (∀ a x, ((![v2176] : Fin 1 → IVec S16 32) a x).toNat < S16.size a)
theorem k1_idx26_inb : ∀ (v2176 : IVec S16 32) (k1_hw26 : k1_chk26 v2176), ∀ a x, ((![v2176] : Fin 1 → IVec S16 32) a x).toNat < S16.size a := fun v2176 k1_hw26 => k1_hw26

def k1_chk27 (v2260 : IVec S16 32) : Prop :=
  (∀ a x, ((![v2260] : Fin 1 → IVec S16 32) a x).toNat < S16.size a)
theorem k1_idx27_inb : ∀ (v2260 : IVec S16 32) (k1_hw27 : k1_chk27 v2260), ∀ a x, ((![v2260] : Fin 1 → IVec S16 32) a x).toNat < S16.size a := fun v2260 k1_hw27 => k1_hw27

def k1_chk28 (v2344 : IVec S16 32) : Prop :=
  (∀ a x, ((![v2344] : Fin 1 → IVec S16 32) a x).toNat < S16.size a)
theorem k1_idx28_inb : ∀ (v2344 : IVec S16 32) (k1_hw28 : k1_chk28 v2344), ∀ a x, ((![v2344] : Fin 1 → IVec S16 32) a x).toNat < S16.size a := fun v2344 k1_hw28 => k1_hw28

def k1_chk29 (v2428 : IVec S16 32) : Prop :=
  (∀ a x, ((![v2428] : Fin 1 → IVec S16 32) a x).toNat < S16.size a)
theorem k1_idx29_inb : ∀ (v2428 : IVec S16 32) (k1_hw29 : k1_chk29 v2428), ∀ a x, ((![v2428] : Fin 1 → IVec S16 32) a x).toNat < S16.size a := fun v2428 k1_hw29 => k1_hw29

def k1_chk30 (v2512 : IVec S16 32) : Prop :=
  (∀ a x, ((![v2512] : Fin 1 → IVec S16 32) a x).toNat < S16.size a)
theorem k1_idx30_inb : ∀ (v2512 : IVec S16 32) (k1_hw30 : k1_chk30 v2512), ∀ a x, ((![v2512] : Fin 1 → IVec S16 32) a x).toNat < S16.size a := fun v2512 k1_hw30 => k1_hw30

def k1_chk31 (v2596 : IVec S16 32) : Prop :=
  (∀ a x, ((![v2596] : Fin 1 → IVec S16 32) a x).toNat < S16.size a)
theorem k1_idx31_inb : ∀ (v2596 : IVec S16 32) (k1_hw31 : k1_chk31 v2596), ∀ a x, ((![v2596] : Fin 1 → IVec S16 32) a x).toNat < S16.size a := fun v2596 k1_hw31 => k1_hw31

def k1_chk32 (v2680 : IVec S16 32) : Prop :=
  (∀ a x, ((![v2680] : Fin 1 → IVec S16 32) a x).toNat < S16.size a)
theorem k1_idx32_inb : ∀ (v2680 : IVec S16 32) (k1_hw32 : k1_chk32 v2680), ∀ a x, ((![v2680] : Fin 1 → IVec S16 32) a x).toNat < S16.size a := fun v2680 k1_hw32 => k1_hw32
def k1_off2 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S10 : Shape := ⟨1, ![10]⟩
abbrev S11 : Shape := ⟨1, ![11]⟩
abbrev S_ : Shape := ⟨0, ![]⟩
abbrev S16384x1 : Shape := ⟨2, ![16384, 1]⟩
abbrev S16384 : Shape := ⟨1, ![16384]⟩
abbrev S1x11 : Shape := ⟨2, ![1, 11]⟩
abbrev S16384x11 : Shape := ⟨2, ![16384, 11]⟩
abbrev S1 : Shape := ⟨1, ![1]⟩
abbrev S1x1 : Shape := ⟨2, ![1, 1]⟩

abbrev nBuf : Space → Nat
  | .hbm => 63
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S10, .f32⟩
  | .hbm, ⟨2, _⟩ => ⟨S11, .f32⟩
  | .hbm, ⟨3, _⟩ => ⟨S16384x1000, .f32⟩
  | .hbm, ⟨4, _⟩ => ⟨S16384x1000, .f32⟩
  | .hbm, ⟨5, _⟩ => ⟨S_, .f32⟩
  | .hbm, ⟨6, _⟩ => ⟨S16384x1000, .f32⟩
  | .hbm, ⟨7, _⟩ => ⟨S16384x1, .f32⟩
  | .hbm, ⟨8, _⟩ => ⟨S16384, .f32⟩
  | .hbm, ⟨9, _⟩ => ⟨S1x11, .f32⟩
  | .hbm, ⟨10, _⟩ => ⟨S16384x1, .f32⟩
  | .hbm, ⟨11, _⟩ => ⟨S16384x11, .f32⟩
  | .hbm, ⟨12, _⟩ => ⟨S16384x11, .f32⟩
  | .hbm, ⟨13, _⟩ => ⟨S16384x11, .i1⟩
  | .hbm, ⟨14, _⟩ => ⟨S16384x11, .i32⟩
  | .hbm, ⟨15, _⟩ => ⟨S_, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384, .f32⟩
  | .hbm, ⟨47, _⟩ => ⟨S_, .f32⟩
  | .hbm, ⟨48, _⟩ => ⟨S16384, .f32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S16384, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_c_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v14 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_cst : Ref sig .tc := ⟨.hbm, 47, rfl⟩
abbrev main_call2_v14 : Ref sig .tc := ⟨.hbm, 48, rfl⟩
abbrev main_v15 : Ref sig .tc := ⟨.hbm, 49, rfl⟩
abbrev main_v16 : Ref sig .tc := ⟨.hbm, 50, rfl⟩
abbrev main_cst_4 : Ref sig .tc := ⟨.hbm, 51, rfl⟩
abbrev main_cst_5 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v17 : Ref sig .tc := ⟨.hbm, 58, rfl⟩
abbrev main_cst_6 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩

abbrev nD : Nat := 1
abbrev τ : Topo := Topo.v7x

variable {F : FTy → Type} [FloatOps F]
-- ==== Proof.Prog.lean ====
/- The SparseCore kernel as a short program: the two copies in, thirty-two equal groups of sixteen entries, the copy out; and the
   theorem that the printed kernel is that program. -/
module

public import proofs.«01_k».proof.Proof.Gen.KernelIdeal
public import proofs.«01_k».proof.Proof.Gen.KernelIdeal.Skeleton

@[expose] public section

set_option maxRecDepth 16384

noncomputable section

namespace Cert.KernelIdeal.Tile

open Cert.KernelIdeal Cert.KernelIdeal.Gen Idealize.ShloMosaic Idealize.SL.Sem

variable {F : FTy → Type} [FloatOps F]

/-- One more than the count so far in each lane where the probability is above the edge with word `e`. -/
def stepCnt (v : Vec F S16 .f32) (e : BitVec 32) (c : IVec S16 32) : IVec S16 32 :=
  addi c (select (cmpf .ogt v (broadcast S16 (Scalar.ofBits .f32 e : F .f32) : FVec F S16 .f32)) (broadcast S16 1#32) (broadcast S16 0#32))

/-- The number of the eleven bin edges below the probability, lane by lane. -/
def cntV (v : Vec F S16 .f32) : IVec S16 32 :=
  stepCnt v 0x3F800000#32 (stepCnt v 0x3F666667#32 (stepCnt v 0x3F4CCCCD#32 (stepCnt v 0x3F333333#32 (stepCnt v 0x3F19999A#32
    (stepCnt v 0x3F000000#32 (stepCnt v 0x3ECCCCCD#32 (stepCnt v 0x3E99999A#32 (stepCnt v 0x3E4CCCCD#32 (stepCnt v 0x3DCCCCCD#32
      (stepCnt v 0x00000000#32 (broadcast S16 0#32)))))))))))

/-- The bin of each lane: the count less one, kept between 0 and 9. -/
def idxV (v : Vec F S16 .f32) : IVec S16 32 :=
  minsi (broadcast S16 9#32) (maxsi (broadcast S16 0#32) (subi (cntV v) (broadcast S16 1#32)))

/-- The result of each lane: the probability times the inverse of the squared parameter, that square kept between 0.01 and 100. -/
def outV (v b : Vec F S16 .f32) : FVec F S16 .f32 :=
  mulf v (divf (broadcast S16 (Scalar.ofBits .f32 0x3F800000#32 : F .f32))
    (minimumf (broadcast S16 (Scalar.ofBits .f32 0x42C80000#32 : F .f32))
      (maximumf (broadcast S16 (Scalar.ofBits .f32 0x3C23D70A#32 : F .f32)) (mulf b b))))

/-- A group of sixteen entries that starts at `16 * k` lies inside the 512 entries of a tile, for `k` below 32. -/
theorem grp_inb (k : Nat) (hk : k < 32) : ∀ a, (![16 * k] : Fin 1 → Nat) a + S16.size a ≤ S512.size a := by
  intro a
  match a with
  | ⟨0, _⟩ => show 16 * k + 16 ≤ 512; omega

section
variable (i : grid1.Coords) (arg2 : Memref sig .scVector .hbm S16384 .f32) (harg2 : arg2.IsWhole) (arg3 : Memref sig .scVector .hbm S16 .f32)
  (harg3 : arg3.IsWhole) (arg4 : Memref sig .scVector .hbm S16384 .f32) (harg4 : arg4.IsWhole) (arg5 : Memref sig .scVector .vmem S512 .f32)
  (harg5 : arg5.IsWhole) (arg6 : Memref sig .scVector .vmem S16 .f32) (harg6 : arg6.IsWhole) (arg7 : Memref sig .scVector .vmem S512 .f32)
  (harg7 : arg7.IsWhole) (r0 r1 r2 : DmaSems sig S_)

variable (F) in
/-- The programs of the tile at coordinates `i`. -/
abbrev TP : Type 1 := Prog (TpuEff nD τ sig (Elt F) Λ₀ (.scVector ((i 0).castLE hcore1) ((i 1).castLE hsub1))) PUnit

/-- Group `k`: load its sixteen probabilities, look their bins up in the table, store the sixteen results. -/
def grp (k : Nat) (hk : k < 32) : TP F i := do
  let v : Vec F S16 .f32 ← Prog.lift (.load arg5 (Rect.unit (s := S512) ![16 * k] S16.size (grp_inb k hk)).toLoadRect (View.loadsAt_vmem h_S16))
  have hw : k1_chk1 (idxV v) := (← Prog.lift (TpuEff.assume (k1_chk1 (idxV v)) (k1_chk1.dec (idxV v)))).down
  let b : Vec F S16 .f32 ← SparseCore.vectorLoadIdx arg6 ![idxV v] (k1_idx1_inb (idxV v) hw) (View.loads_vmem h_S16)
  let _ : Vec F S16 .f32 ← Prog.lift (.load arg7 (Rect.unit (s := S512) ![16 * k] S16.size (grp_inb k hk)).toLoadRect (View.loadsAt_vmem h_S16))
  Prog.lift (.store arg7 (Rect.unit (s := S512) ![16 * k] S16.size (grp_inb k hk)) (outV v b) Finset.univ (View.stores_vmem_bits_univ h_S16 rfl) (.inl rfl))

/-- The last `n` groups of the thirty-two, from group `k` on, then `fin`. -/
def grps (fin : TP F i) : (n k : Nat) → k + n = 32 → TP F i
  | 0, _, _ => fin
  | n + 1, k, h => do
    grp i arg5 arg6 arg7 k (by omega)
    grps fin n (k + 1) (by omega)

/-- The copy of a tile's 512 results out to its part of the result array. -/
def copyOut : TP F i := do
  Prog.lift (.enqueueDma arg7 (.here (arg4.slice (Rect.unit (s := S16384) (k1_off2 i) S512.size (k1_off2_inb i)) (fun _ => rfl))) (.dma r2.sem) harg7.wordExact
    (View.wordExact_bits rfl) ⟨Or.inl rfl, trivial⟩)
  Prog.lift (.waitDma2 r2.sem arg7 (arg4.slice (Rect.unit (s := S16384) (k1_off2 i) S512.size (k1_off2_inb i)) (fun _ => rfl)) harg7.wordExact
    (View.wordExact_bits rfl))
  pure ⟨⟩

/-- The kernel, short: the table in, the tile's 512 probabilities in, the thirty-two groups, the results out. -/
def tileProg : TP F i := do
  Prog.lift (.enqueueDma arg3 (.here arg6) (.dma r0.sem) harg3.wordExact harg6.wordExact ⟨Or.inl rfl, trivial⟩)
  Prog.lift (.waitDma2 r0.sem arg3 arg6 harg3.wordExact harg6.wordExact)
  Prog.lift (.enqueueDma (arg2.slice (Rect.unit (s := S16384) (k1_off1 i) S512.size (k1_off1_inb i)) (fun _ => rfl)) (.here arg5) (.dma r1.sem)
    (View.wordExact_bits rfl) harg5.wordExact ⟨Or.inl rfl, trivial⟩)
  Prog.lift (.waitDma2 r1.sem (arg2.slice (Rect.unit (s := S16384) (k1_off1 i) S512.size (k1_off1_inb i)) (fun _ => rfl)) arg5 (View.wordExact_bits rfl)
    harg5.wordExact)
  grps i arg5 arg6 arg7 (copyOut i arg4 arg7 harg7 r2) 32 0 rfl

set_option maxRecDepth 65536 in
/-- The printed kernel is the short program. -/
theorem kernel_eq : cc1__sc_bin_kernel i arg2 harg2 arg3 harg3 arg4 harg4 arg5 harg5 arg6 harg6 arg7 harg7 r0 r1 r2
    = tileProg (F := F) i arg2 arg3 harg3 arg4 arg5 harg5 arg6 harg6 arg7 harg7 r0 r1 r2 := by
  rfl
end

end Cert.KernelIdeal.Tile

end
-- ==== Proof.Common.lean ====
/- The program as the launch theorem sees it: the SparseCore configuration, the resource algebra (the handshakes' rounds, the
   pipeline's rounds, the counters of the tiles' own copies), and the buffers by name. -/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.ShareLeaves
public import Idealize.ShloMosaic.Lib.Tactic
public import proofs.«01_k».proof.Proof.Gen.KernelIdeal
public import proofs.«01_k».proof.Proof.Prog

@[expose] public section

set_option maxRecDepth 16384

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the program with its one pipeline. -/
abbrev ΛP : Labels := Pipeline.Sig Λ₀ (Fin 1) fun p => (pcfgs (F := F) p).Adm
/-- The SparseCore calls. -/
abbrev K : SparseCore.Cfg τ sig (ΛP (F := F)) 1 := sc (F := F)
/-- The bodies under the SparseCore layer. -/
abbrev D : Defs nD τ sig (Elt F) (ΛP (F := F)) := Pipeline.defs pcfgs defs₀
/-- No body loops. -/
abbrev 𝒱₀ : Variants := Variants.none
/-- The variants of the pipeline's layer. -/
abbrev 𝒱 : Variants := 𝒱₀.lift
/-- The variant every thread starts with. -/
abbrev v₀ : 𝒱.V := Sum.inl none

/-- The launch semaphores are four, unscoped, and nothing of a SparseCore's is shared with its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The user algebra: the handshakes, the pipeline's staging cells, the counters of local copies. -/
abbrev UU : Type := UH × (UR sig nD τ × Counters)

local notation "𝕄" => MT nD τ sig (HIx 1) (Elt F) ℕ UU ℕ

/-- Where the handshakes' rounds lie. -/
def EH : Emb UH (MT nD τ sig (HIx 1) (Elt F) ℕ UU ℕ) := embL
/-- Where the pipeline's rounds lie. -/
def EP : Emb (UR sig nD τ) (MT nD τ sig (HIx 1) (Elt F) ℕ UU ℕ) := (Emb.inl : Emb (UR sig nD τ) (UR sig nD τ × Counters)).trans embR

instance EH_landsIn : (EH : Emb UH 𝕄).LandsIn (upEmb : UEmb _ 𝕄) := by unfold EH; infer_instance
instance EP_landsIn : (EP : Emb (UR sig nD τ) 𝕄).LandsIn (upEmb : UEmb _ 𝕄) := by unfold EP; infer_instance

/-- The row maxima, the padded table and the result, as locations of device `d`. -/
abbrev xLoc (d : Dev nD) : Loc nD τ sig := (SparseCore.T d).loc main_v4
abbrev pLoc (d : Dev nD) : Loc nD τ sig := (SparseCore.T d).loc main_v1
abbrev oLoc (d : Dev nD) : Loc nD τ sig := (SparseCore.T d).loc main_v5

/-- The same as a tile names them. -/
abbrev xV : Memref sig .scVector .hbm S16384 .f32 := Memref.whole main_v4_scv
abbrev pV : Memref sig .scVector .hbm S16 .f32 := Memref.whole main_v1_scv
abbrev oV : Memref sig .scVector .hbm S16384 .f32 := Memref.whole main_v5_scv
/-- A tile's scratch: its probabilities, the table, its results. -/
abbrev sX : Memref sig .scVector .vmem S512 .f32 := Memref.whole cc1_scratch0
abbrev sP : Memref sig .scVector .vmem S16 .f32 := Memref.whole cc1_scratch1
abbrev sO : Memref sig .scVector .vmem S512 .f32 := Memref.whole cc1_scratch2

end Cert.KernelIdeal.Tile

end
-- ==== Proof.Region.lean ====
/- The TensorCore kernel of the first call: its body run at one grid point, the pipeline's proof data with what each point writes,
   and the region of @main that the call is. -/
module

public import proofs.«01_k».proof.Proof.Common
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Frame
public import Idealize.ShloMosaic.Lib.Pipeline.FrameBody
public import Idealize.ShloMosaic.Lib.Writes

@[expose] public section

set_option maxRecDepth 16384

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A memref's buffer on core `c`, whole. -/
abbrev ptM (c : Dev nD) {sp : Space} {S : Shape} {e : EltTy} (M : Memref sig .tc sp S e) (f : Buf (Elt F) (M.view.loc (c : Thread nD τ))) : sProp 𝕄 :=
  M.view.loc (c : Thread nD τ) ↦{fullShare} f

/-! ## The body at one point -/

/-- A load of a whole input block reads the block. -/
theorem readAt_all (M0 : Memref sig .tc .vmem S1000x2048 .f32) (f0 : M0.view.ty.Contents (Elt F)) :
    M0.view.readAt (Elt F) (Rect.unit (s := S1000x2048) ![0, 0] S1000x2048.size inb_S1000x2048_S1000x2048_0_0).toLoadRect f0
      = M0.view.read (Elt F) f0 := by
  funext y
  refine (View.readAt_apply _ _ _).trans (congrArg (M0.view.read (Elt F) f0) ?_)
  funext a
  match a with
  | ⟨0, _⟩ => exact Fin.ext (show 0 + 1 * (y 0).val = (y 0).val by omega)
  | ⟨1, _⟩ => exact Fin.ext (show 0 + 1 * (y 1).val = (y 1).val by omega)

/-- An element of a whole output block is itself in the rectangle that the store names. -/
theorem unit_coords (y : S16x128.Idx) (a : Fin S16x128.rank) : (y a).val
    = (Rect.unit (s := S16x128) ![0, 0] S16x128.size inb_S16x128_S16x128_0_0).off a
      + (Rect.unit (s := S16x128) ![0, 0] S16x128.size inb_S16x128_S16x128_0_0).stride a * (y a).val :=
  match a with
  | ⟨0, _⟩ => show (y 0).val = 0 + 1 * (y 0).val by omega
  | ⟨1, _⟩ => show (y 1).val = 0 + 1 * (y 1).val by omega

/-- The kernel body, from its input block and its output block held whole: it leaves the output block at the column maxima of the
    input block. -/
theorem colmax_run (c : Dev nD) (i : grid0.Coords) (M0 : Memref sig .tc .vmem S1000x2048 .f32) (h0 : M0.IsWhole)
    (M1 : Memref sig .tc .vmem S16x128 .f32) (h1 : M1.IsWhole)
    (f0 : Buf (Elt F) (M0.view.loc (c : Thread nD τ))) (f1 : Buf (Elt F) (M1.view.loc (c : Thread nD τ))) (Q : PUnit → sProp 𝕄) :
    iprop(ptM c M0 f0 ∗ ptM c M1 f1
        ∗ (∀ f1', iprop(⌜M1.view.read (Elt F) f1' = k0_pay1 (M0.view.read (Elt F) f0)⌝ ∗ ptM c M0 f0 ∗ ptM c M1 f1') -∗ Q ⟨⟩))
      ⊢ wp frame (wpE (defs₀ (F := F)) 𝒱₀ (c : Thread nD τ) none) Set.univ (cc0__tc_colmax_kernel i M0 h0 M1 h1) Q := by
  rw [cc0__tc_colmax_kernel_eq_skeleton]
  unfold cc0__tc_colmax_kernel_skel
  iintro ⟨H0, H1, Hk⟩
  sl_exec!
  sl_step
  unfold colmax_run.sl.H1_1
  iapply Hk
  isplitr; swap
  · isplitl [H0]; · iexact H0
    iexact H1
  ipureintro
  refine Eq.trans ?_ (congrArg k0_pay1 (readAt_all M0 f0))
  funext y
  exact View.read_writes_cons_hit_of_coords M1.view _ (Rect.unit (s := S16x128) ![0, 0] S16x128.size inb_S16x128_S16x128_0_0) _ [] y y
    (unit_coords y)

/-! ## The proof data of the pipeline -/

variable (bd : ℕ) (V : (c : Dev nD) → (b : Ref sig .tc) → Buf (Elt F) ((c : Thread nD τ).loc b))

/-- The block of the transposed array that a point fetches. -/
abbrev stg (c : Dev nD) (t : Fin grid0.N) : (cfg0.win 0).block.Idx → Elt F (cfg0.win 0).elt :=
  ((cfg0.win 0).blk t).view.read (Elt F) (V c main_v2)

/-- The pipeline's proof data from a valuation `V`: a point leaves its input block as fetched and its output block at the column
    maxima; throughout, the core owes what it owes before the SparseCore call, and the pairs that it
    has recorded are at or below level `bd`. -/
def dat (c : Dev nD) : Dat τ (Elt F) (HIx 1) ℕ UU ℕ cfg0 c where
  A w := V c (Pipeline.arrRef spec0 w)
  after w t := match w with
    | ⟨0, _⟩ => stg V c t
    | ⟨1, _⟩ => k0_pay1 (stg V c t)
  Φ _ := BI.emp
  q _ := fullShare
  owed _ := (K (F := F)).Otc c 0
  recorded _ := {p | (K (F := F)).lev (T c, p.1) p.2 ≤ bd}

/-- The input window's buffer holds the fetched block. -/
theorem before_in (c : Dev nD) (t : Fin cfg0.N) (d) : (dat bd V c).before 0 t d = stg V c t := by
  rw [Dat.before_fetched _ 0 t (fetch0_0 t)]; rfl

/-- The body obligation: the two staging buffers taken apart, the body run, and put together again. -/
theorem body_obligation (c : Dev nD) : BodyObligation (dat bd V c) (defs₀ (F := F)) 𝒱₀ none Set.univ := fun t => by
  rw [bigSep_W0, bigSep_W0]
  rw [show (dat bd V c).Φ t.castSucc = BI.emp from rfl, show (dat bd V c).Φ t.succ = BI.emp from rfl,
    show (dat bd V c).owesAt none t.succ = (dat bd V c).owesAt none t.castSucc from rfl]
  iintro ⟨HΦ, HO, ⟨%d0, H0⟩, ⟨%d1, H1⟩⟩
  rw [before_in]
  unfold owns
  icases H0 with ⟨%f0, %hf0, H0⟩
  icases H1 with ⟨%f1, -, H1⟩
  rw [(stage_whole0 0 (cfg0.slots t 0)).set_eq_univ, (stage_whole0 1 (cfg0.slots t 1)).set_eq_univ]
  iapply (colmax_run c (grid0.coords t) (st0_0 t) (hstage0_0 ((cfg0.slots t 0).cast nbuf0_0)) (st0_1 t)
    (hstage0_1 ((cfg0.slots t 1).cast nbuf0_1)) f0 f1 _)
  isplitl [H0]; · iexact H0
  isplitl [H1]; · iexact H1
  iintro %f1' ⟨%hf1, H0, H1⟩
  isplitl [HΦ]; · iexact HΦ
  isplitl [HO]; · iexact HO
  isplitl [H0]
  · iexists f0; isplitr; swap; (· iexact H0); ipureintro; exact hf0
  iexists f1'; isplitr; swap; (· iexact H1); ipureintro
  dsimp only [dat]
  rw [← hf0]
  exact hf1

end Cert.KernelIdeal.Tile

end
-- ==== Proof.RegionValue.lean ====
/- What the TensorCore call leaves in its result array, as one function of the array that it reads. -/
module

public import proofs.«01_k».proof.Proof.Region
public import Idealize.ShloMosaic.Lib.Pipeline.ValueKit

@[expose] public section

set_option maxRecDepth 16384

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (bd : ℕ) (V : (c : Dev nD) → (b : Ref sig .tc) → Buf (Elt F) ((c : Thread nD τ).loc b))

/-! ## What the call leaves in its result -/

/-- The columns `2048 t …` of the transposed array. -/
def colBlk (x2 : Vec F S1000x16384 .f32) (t : Fin 8) : Vec F S1000x2048 .f32 := fun y =>
  x2 fun a => match a with
    | ⟨0, _⟩ => (y 0 : Fin 1000)
    | ⟨1, _⟩ => (⟨2048 * t.val + (y 1).val, by have h : (y 1).val < 2048 := (y 1).isLt; have := t.isLt; omega⟩ : Fin 16384)

/-- The column maxima of the transposed array, as the call leaves them: row `i 0` is in the block of point `i 0 / 16`. -/
def colMax (x2 : Vec F S1000x16384 .f32) : Vec F S128x128 .f32 := fun i =>
  k0_pay1 (colBlk x2 ⟨(i 0).val / 16, by have h : (i 0).val < 128 := (i 0).isLt; omega⟩) fun a => match a with
    | ⟨0, _⟩ => (⟨(i 0).val % 16, Nat.mod_lt _ (by decide)⟩ : Fin 16)
    | ⟨1, _⟩ => (i 1 : Fin 128)

/-- Where the two windows are at a point. -/
theorem index_0 : ∀ t : Fin grid0.N, win0_0.index t = ![0, t.val] := by decide +kernel
theorem index_1 : ∀ t : Fin grid0.N, win0_1.index t = ![t.val, 0] := by decide +kernel

/-- The blocks that are written back cover the result array. -/
theorem covers_1 : win0_1.Covers := by
  refine ⟨by decide, fun β => ?_⟩
  have h0 : (β 0).val < 8 := (β 0).isLt
  have h1 : (β 1).val < 1 := (β 1).isLt
  let t : Fin grid0.N := ⟨(β 0).val, by rw [N_0]; exact h0⟩
  refine ⟨t, flush0_1 t, fun a => ⟨?_, .inl rfl⟩⟩
  rw [index_1]
  match a with
  | ⟨0, _⟩ => rfl
  | ⟨1, _⟩ => show 0 = (β 1).val; omega

/-- The block that a point fetches is its columns. -/
theorem stg_eq (c : Dev nD) (t : Fin grid0.N) (t8 : Fin 8) (ht : t8.val = t.val) : stg V c t = colBlk (V c main_v2) t8 := by
  funext y
  unfold stg colBlk
  blk_simp
  refine congrArg (V c main_v2) ?_
  blk_ext [index_0]

/-- What a point writes back, read in the result array. -/
theorem colMax_emb (x2 : Vec F S1000x16384 .f32) (t : Fin grid0.N) (t8 : Fin 8) (ht : t8.val = t.val) (i : S128x128.Idx) (y : S16x128.Idx)
    (h0 : (i 0).val = 16 * t.val + (y 0).val) (h1 : (i 1).val = (y 1).val) : k0_pay1 (colBlk x2 t8) y = colMax x2 i := by
  have hy : (y 0).val < 16 := (y 0).isLt
  unfold colMax
  refine congr (congrArg (fun z => k0_pay1 (colBlk x2 z)) (Fin.ext ?_)) (funext fun a => ?_)
  · show t8.val = (i 0).val / 16; omega
  match a with
  | ⟨0, _⟩ => exact Fin.ext (show (y 0).val = (i 0).val % 16 by omega)
  | ⟨1, _⟩ => exact Fin.ext h1.symm

/-- Where an element of an output block is in the result array. -/
theorem emb_1 (t : Fin grid0.N) (y : S16x128.Idx) : (((win0_1.blk t).view.emb y) 0 : ℕ) = 16 * t.val + (y 0).val
    ∧ (((win0_1.blk t).view.emb y) 1 : ℕ) = (y 1).val := by
  constructor
  · blk_simp [index_1]
    omega
  · blk_simp [index_1]

/-- The result array after the call. -/
theorem arr_colMax (c : Dev nD) : (dat bd V c).arrAt 1 cfg0.N = colMax (V c main_v2) := by
  refine (dat bd V c).arrAt_eq_of_covers 1 _ covers_1 fun t hf y => ?_
  refine (cast_eq _ _).trans ?_
  have h8 : t.val < 8 := lt_of_lt_of_eq t.isLt N_0
  have e : (dat bd V c).after 1 t = k0_pay1 (colBlk (V c main_v2) ⟨t.val, h8⟩) := by
    dsimp only [dat]
    rw [stg_eq V c t ⟨t.val, h8⟩ rfl]
  rw [e]
  exact colMax_emb (V c main_v2) t ⟨t.val, h8⟩ rfl _ y (emb_1 t y).1 (emb_1 t y).2

end Cert.KernelIdeal.Tile

end
-- ==== Proof.RegionSeg.lean ====
/- The TensorCore call as a region of @main: from every unscoped buffer at a valuation and the core's debts before the SparseCore
   call, to the same with the result array at the column maxima. -/
module

public import proofs.«01_k».proof.Proof.RegionValue

@[expose] public section

set_option maxRecDepth 16384

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (bd : ℕ) (V Vp : (c : Dev nD) → (b : Ref sig .tc) → Buf (Elt F) ((c : Thread nD τ).loc b))

/-- No pipeline has a prefetched table. -/
abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat bd V c

/-- The core's debts before the SparseCore call, its recorded pairs at or below level `bd`. -/
abbrev debts (c : Dev nD) : sProp 𝕄 :=
  iprop(∃ W, ⌜(K (F := F)).WBelow (T c) W bd⌝ ∗ owes (T c) ((K (F := F)).Otc c 0) W)

/-- Before the SparseCore call the TensorCore owes nothing at the lowest index. -/
theorem Otc_none (c : Dev nD) (g : GSem nD τ sig) : (K (F := F)).Otc (nD := nD) (N := 1) c 0 g none = 0 := by
  unfold SparseCore.Cfg.Otc
  simp [Finset.sum_apply, tallyAt_apply]

set_option backward.isDefEq.respectTransparency.types false in
/-- The region. -/
def reg (hout : ∀ c, Vp c main_v3 = colMax (V c main_v2)) (hne : ∀ c (b : Ref sig .tc), b ≠ main_v3 → Vp c b = V c b) :
    Pipeline.RegionSeg (pcfgs (F := F)) adm (pdats bd V) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation bd V c).loose
  hwaits c := Pipeline.cellsWaits_intro _ _ _ _ _ fun w s t => (K (F := F)).mayWait_none _ (Otc_none c)
  pre c := iprop(unscopedBufs c (V c) ∗ debts bd c)
  post c := iprop(unscopedBufs c (Vp c) ∗ debts bd c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats bd V) launch0.win launch0.arr_whole c
      ((pdats bd V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats bd V 0 c).Φ 0 = BI.emp from rfl]
    iintro ⟨-, -, -⟩; iempintro
  hout c := by
    rw [Pipeline.ownSems0_none, show (pdats bd V 0 c).Φ (Fin.last _) = BI.emp from rfl]
    have hr := scopedRest0_eq (Ix := HIx 1) (Val := Elt F) (Name := ℕ) (U := UU) (Lvl := ℕ) c
    iintro -
    isplitr; · iempintro
    isplitr; · iempintro
    iapply (Entails.of_eq hr.symm); iempintro
  hexit c := by
    have hjoin := Pipeline.unscopedBufs_of_arrays (p := 0) (pcfgs (F := F)) adm (Ix := HIx 1) (Name := ℕ) (U := UU) (Lvl := ℕ) launch0.win launch0.arr_whole c
      (pdats bd V) ((pdats bd V 0 c).share_full fun _ => rfl) (V c) (Vp c) ((pdats bd V 0 c).arrAt · cfg0.N)
      (fun w => match w with
        | ⟨0, _⟩ => ((pdats bd V 0 c).arrAt_in 0 rfl _).trans (hne c main_v2 (by decide)).symm
        | ⟨1, _⟩ => (arr_colMax bd V c).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩
    iexists W; isplitr; swap; (· iexact HO)
    ipureintro
    intro p hp
    rcases hW hp with h | ⟨w, s, rfl⟩
    · exact h
    · exact Nat.zero_le _

end Cert.KernelIdeal.Tile

end
-- ==== Proof.Scalar.lean ====
/- One entry of the SparseCore kernel: the bin of a probability, the table's parameter there, the result; and that the vector
   functions of the short program are these, lane by lane. -/
module

public import proofs.«01_k».proof.Proof.Prog

@[expose] public section

set_option maxRecDepth 16384

noncomputable section

namespace Cert.KernelIdeal.Tile

open Cert.KernelIdeal Cert.KernelIdeal.Gen Idealize.ShloMosaic

variable {F : FTy → Type} [FloatOps F]

/-- One more than the count so far if the probability is above the edge with word `e`. -/
def step1 (x : F .f32) (e : BitVec 32) (c : BitVec 32) : BitVec 32 :=
  c + (if FloatOps.cmpf .ogt x (Scalar.ofBits .f32 e : F .f32) = 1#1 then 1#32 else 0#32)

/-- The eleven edges, as words, the last one first. -/
def edges : List (BitVec 32) :=
  [0x3F800000#32, 0x3F666667#32, 0x3F4CCCCD#32, 0x3F333333#32, 0x3F19999A#32, 0x3F000000#32, 0x3ECCCCCD#32, 0x3E99999A#32, 0x3E4CCCCD#32, 0x3DCCCCCD#32, 0x00000000#32]

/-- The number of edges below a probability. -/
def cnt1 (x : F .f32) : BitVec 32 := edges.foldr (step1 x) 0#32

/-- The bin of one probability. -/
def idx1 (x : F .f32) : BitVec 32 := IntOp.minsi 9#32 (IntOp.maxsi 0#32 (cnt1 x - 1#32))

theorem stepCnt_apply (v : Vec F S16 .f32) (e : BitVec 32) (c : IVec S16 32) (j : S16.Idx) : stepCnt v e c j = step1 (v j) e (c j) := rfl

theorem cntV_apply (v : Vec F S16 .f32) (j : S16.Idx) : cntV v j = cnt1 (v j) := by
  unfold cntV cnt1 edges
  simp only [stepCnt_apply, List.foldr_cons, List.foldr_nil]
  rfl

/-- The vector function finds each lane's bin from that lane alone. -/
theorem idxV_apply (v : Vec F S16 .f32) (j : S16.Idx) : idxV v j = idx1 (v j) := by
  unfold idx1; rw [← cntV_apply]; rfl

/-- A word kept between 0 and 9 is at most 9. -/
theorem clip_le (w : BitVec 32) : (IntOp.minsi 9#32 (IntOp.maxsi 0#32 w)).toNat ≤ 9 := by
  have h9 : (9#32).toInt = 9 := by decide
  have h0 : (0#32).toInt = 0 := by decide
  have hm : (IntOp.maxsi 0#32 w).toInt = max 0 w.toInt := by
    unfold IntOp.maxsi
    simp only [BitVec.slt_eq_decide, decide_eq_true_eq, h0]
    split <;> omega
  generalize IntOp.maxsi 0#32 w = u at hm
  unfold IntOp.minsi
  simp only [BitVec.slt_eq_decide, decide_eq_true_eq, h9]
  split
  · decide
  · have := BitVec.toInt_eq_toNat_cond u
    split at this <;> omega

/-- A bin is at most nine. -/
theorem idx1_le (x : F .f32) : (idx1 x).toNat ≤ 9 := clip_le _

/-- A bin is below sixteen, whatever the probability. -/
theorem idx1_lt (x : F .f32) : (idx1 x).toNat < 16 := by
  have := idx1_le x
  omega

/-- The index of a bin in a table of sixteen. -/
def binIx (x : F .f32) : S16.Idx := fun a => match a with | ⟨0, _⟩ => (⟨(idx1 x).toNat, idx1_lt x⟩ : Fin 16)

/-- The result of one probability, given its bin's parameter. -/
def out1 (x b : F .f32) : F .f32 :=
  FloatOps.mulf x (FloatOps.divf (Scalar.ofBits .f32 0x3F800000#32 : F .f32)
    (FloatOps.minimumf (Scalar.ofBits .f32 0x42C80000#32 : F .f32)
      (FloatOps.maximumf (Scalar.ofBits .f32 0x3C23D70A#32 : F .f32) (FloatOps.mulf b b))))

/-- The result of one probability, given the table. -/
def val (p : Vec F S16 .f32) (x : F .f32) : F .f32 := out1 x (p (binIx x))

/-- The indexed load's side condition holds at every vector of bins. -/
theorem chk_idxV (v : Vec F S16 .f32) : k1_chk1 (idxV v) := by
  intro a x
  match a with
  | ⟨0, _⟩ =>
    show (idxV v x).toNat < 16
    rw [idxV_apply]; exact idx1_lt (v x)

/-- The vector result is the scalar one, lane by lane. -/
theorem outV_apply (v : Vec F S16 .f32) (p : Vec F S16 .f32) (h) (j : S16.Idx) :
    outV v (loadIdx p ![idxV v] h) j = val p (v j) := by
  have hix : idxAt (s := S16) ![idxV v] h j = binIx (v j) := by
    funext a
    match a with
    | ⟨0, _⟩ => exact Fin.ext (show (idxV v j).toNat = (idx1 (v j)).toNat by rw [idxV_apply])
  unfold val; rw [← hix]; rfl

end Cert.KernelIdeal.Tile

end
-- ==== Proof.Tile.lean ====
/- One tile of the SparseCore kernel, run at a symbolic core and tile: from its part of the row maxima, a read share of the table
   and its part of the result, to its part of the result holding the result of each of its entries. -/
module

public import proofs.«01_k».proof.Proof.Common
public import proofs.«01_k».proof.Proof.Scalar
public import Idealize.ShloMosaic.Lib.Writes

@[expose] public section

set_option maxRecDepth 16384

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

/-- The SparseCore and the tile at the kernel's coordinates `L`. -/
abbrev cV (L : grid1.Coords) : Fin τ.nSC := (L 0).castLE hcore1
abbrev jV (L : grid1.Coords) : Fin τ.nSub := (L 1).castLE hsub1
/-- The thread of that tile on device `d`. -/
abbrev thr (d : Dev nD) (L : grid1.Coords) : Thread nD τ := V d (cV L) (jV L)

/-! ## The groups -/

/-- The results of a tile's 512 entries, from its probabilities and the table. -/
def res (fx : Vec F S512 .f32) (p : Vec F S16 .f32) : Vec F S512 .f32 := fun j => val p (fx j)

/-- The sixteen entries of group `k`. -/
abbrev grpR (k : Nat) (hk : k < 32) : Rect S512 := Rect.unit (s := S512) ![16 * k] S16.size (grp_inb k hk)

/-- A store of group `k`'s results over contents right below the group leaves contents right below the next. -/
theorem store_grp (fx fo : Vec F S512 .f32) (p : Vec F S16 .f32) (k : Nat) (hk : k < 32)
    (h) (hfo : ∀ j : S512.Idx, (j 0).val < 16 * k → fo j = res fx p j) (j : S512.Idx) (hj : (j 0).val < 16 * (k + 1)) :
    ((sO).view.slice (grpR k hk)).write (Elt F) fo
      (outV ((sX).view.readAt (Elt F) (grpR k hk).toLoadRect fx) (loadIdx p ![idxV ((sX).view.readAt (Elt F) (grpR k hk).toLoadRect fx)] h)) Finset.univ j
      = res fx p j := by
  set w := outV ((sX).view.readAt (Elt F) (grpR k hk).toLoadRect fx) (loadIdx p ![idxV ((sX).view.readAt (Elt F) (grpR k hk).toLoadRect fx)] h)
  by_cases hlt : (j 0).val < 16 * k
  · refine Eq.trans ?_ (hfo j hlt)
    exact View.read_writes_cons_miss_of_axis (sO).view fo ⟨grpR k hk, w⟩ [] j 0 (16 * k) 16 rfl rfl rfl (.inl hlt)
  · let x : S16.Idx := fun a => match a with | ⟨0, _⟩ => (⟨(j 0).val - 16 * k, by omega⟩ : Fin 16)
    have hx : ∀ a, (j a).val = (grpR k hk).off a + (grpR k hk).stride a * (x a).val := fun a => match a with
      | ⟨0, _⟩ => by show (j 0).val = 16 * k + 1 * ((j 0).val - 16 * k); omega
    refine (View.read_writes_cons_hit_of_coords (sO).view fo (grpR k hk) w [] x j hx).trans ?_
    refine (outV_apply _ p h x).trans ?_
    unfold res
    refine congrArg (val p) ?_
    refine (View.readAt_apply _ _ _).trans ?_
    refine congrArg fx ?_
    funext a
    exact Fin.ext (hx a).symm

/-- A read of a tile's whole table is the table. -/
theorem read_table (p : Vec F S16 .f32) : ((sP).access (.whole S16)).read (Elt F) p = p := by
  funext j
  refine (View.read_apply _ _).trans ((cast_eq _ _).trans (congrArg p ?_))
  funext a
  match a with
  | ⟨0, _⟩ => exact Fin.ext (show 0 + 1 * (j 0).val = (j 0).val by omega)

section Groups

variable (d : Dev nD) (L : grid1.Coords)

/-- The groups from `k` on: from results right below group `k` to all the results, then `fin`. -/
theorem wp_grps (fin : TP F L) (fx : Vec F S512 .f32) (p : Vec F S16 .f32) (Φ : PUnit → sProp 𝕄) :
    ∀ (n k : Nat) (hn : k + n = 32) (fo : Vec F S512 .f32) (hfo : ∀ j : S512.Idx, (j 0).val < 16 * k → fo j = res fx p j),
    iprop(((sX).view.loc (thr d L) ↦{fullShare} fx) ∗ ((sP).view.loc (thr d L) ↦{fullShare} p) ∗ ((sO).view.loc (thr d L) ↦{fullShare} fo)
        ∗ ((((sX).view.loc (thr d L) ↦{fullShare} fx) ∗ ((sP).view.loc (thr d L) ↦{fullShare} p) ∗ ((sO).view.loc (thr d L) ↦{fullShare} res fx p))
            -∗ wp frame (wpE (defs₀ (F := F)) 𝒱₀ (thr d L) none) Set.univ fin Φ))
      ⊢ wp frame (wpE (defs₀ (F := F)) 𝒱₀ (thr d L) none) Set.univ (grps L sX sP sO fin n k hn) Φ := by
  intro n
  induction n with
  | zero =>
    intro k hn fo hfo
    obtain rfl : fo = res fx p := funext fun j => hfo j (by
      have : (j 0).val < 512 := (j 0).isLt
      omega)
    unfold grps
    iintro ⟨HX, HP, HO, Hk⟩
    iapply Hk
    isplitl [HX]; · iexact HX
    isplitl [HP] <;> iassumption
  | succ n ih =>
    intro k hn fo hfo
    have hk : k < 32 := by omega
    have hn' : k + 1 + n = 32 := by omega
    unfold grps grp
    simp only [Prog.lift, Prog.bind_op, Prog.bind_ret, Prog.pure_eq_ret, bind_assoc]
    iintro ⟨HX, HP, HO, Hk⟩
    iapply (wp_load 𝒱₀ (thr d L) none Set.univ (m := sX) (S := Finset.univ) (Finset.subset_univ _)) $$ HX; iintro HX
    rw [wp_assume_of _ _ _ _ (chk_idxV _)]
    iapply (SparseCore.wp_vectorLoadIdx 𝒱₀ (thr d L) none Set.univ (base := sP) (S := Finset.univ) (q := fullShare) (Finset.subset_univ _)) $$ HP; iintro HP
    rw [read_table p]
    iapply (wp_load 𝒱₀ (thr d L) none Set.univ (m := sO) (S := Finset.univ) (Finset.subset_univ _)) $$ HO; iintro HO
    have hst := store_grp fx fo p k hk (k1_idx1_inb _ (chk_idxV _)) hfo
    ihave HO := (Entails.of_eq (show ((sO).view.loc (thr d L) ↦{fullShare} fo : sProp 𝕄)
      = (((sO).access (grpR k hk)).loc (thr d L) ↦{fullShare} fo : sProp 𝕄) from rfl)) $$ HO
    iapply (wp_store 𝒱₀ (thr d L) none Set.univ (m := sO) (r := grpR k hk) (Mk := Finset.univ) (S := Finset.univ) (Finset.subset_univ _)) $$ HO; iintro HO
    iapply (ih (k + 1) hn' _ hst)
    isplitl [HX]; · iexact HX
    isplitl [HP]; · iexact HP
    isplitl [HO]; · iexact HO
    iexact Hk

end Groups

/-! ## The whole tile -/

theorem hdiv : 32 ∣ S16384.size 0 := ⟨512, rfl⟩
/-- The 512 entries of tile `n` of the thirty-two. -/
abbrev row (n : Fin 32) : Rect S16384 := Rect.part (s := S16384) (a₀ := 0) hdiv n
/-- The same, as a set of entries. -/
abbrev rowSet (n : Fin 32) : Finset S16384.Idx := ((xV).view.slice (row n)).set
/-- The number of tile `j` of SparseCore `c`. -/
def tileOf (c : Fin 2) (j : Fin 16) : Fin 32 := ⟨16 * c.val + j.val, by omega⟩
/-- The number of the tile at the kernel's coordinates. -/
abbrev nL (L : grid1.Coords) : Fin 32 := tileOf (L 0) (L 1)
/-- The read share of the table that tile `n` holds. -/
abbrev pq (n : Fin 32) : PosShare TreeShare := leaf 5 fullShare n

section Body

variable (d : Dev nD) (L : grid1.Coords)

abbrev rowK1 : Rect S16384 := Rect.unit (s := S16384) (k1_off1 L) S512.size (k1_off1_inb L)
abbrev rowK2 : Rect S16384 := Rect.unit (s := S16384) (k1_off2 L) S512.size (k1_off2_inb L)
abbrev xRowK : Memref sig .scVector .hbm S512 .f32 := (xV).slice (rowK1 L) (fun _ => rfl)
abbrev oRowK : Memref sig .scVector .hbm S512 .f32 := (oV).slice (rowK2 L) (fun _ => rfl)

/-- The two slices the kernel makes are the tile's part. -/
theorem rowK1_eq : rowK1 L = row (nL L) := by
  unfold rowK1 row Rect.part Rect.block
  congr 1 <;> funext a
  · rw [k1_off1_eq]
    match a with
    | 0 =>
      simp only [Shape.partIx, Shape.partSize, nL, tileOf, Function.update_self, Matrix.cons_val_zero]
      show 8192 * (L 0).val + 512 * (L 1).val = (16 * (L 0).val + (L 1).val) * (16384 / 32)
      omega
  · match a with
    | 0 => simp [Shape.partSize]
theorem rowK2_eq : rowK2 L = row (nL L) := by
  rw [← rowK1_eq]
  rfl

theorem set_xRowK : (xRowK L).view.set = rowSet (nL L) := by
  show ((xV).view.slice (rowK1 L)).set = _
  exact rowK1_eq L ▸ rfl
theorem set_oRowK : (oRowK L).view.set = rowSet (nL L) := by
  show ((xV).view.slice (rowK2 L)).set = _
  exact rowK2_eq L ▸ rfl

theorem pts_xRowK (f : Buf (Elt F) (xLoc d)) :
    ((xRowK L).view.loc (thr d L) ↦[(xRowK L).view.set]{fullShare} f : sProp 𝕄) = xLoc d ↦[rowSet (nL L)]{fullShare} f := by
  rw [set_xRowK]
theorem pts_oRowK (f : Buf (Elt F) (oLoc d)) :
    ((oRowK L).view.loc (thr d L) ↦[(oRowK L).view.set]{fullShare} f : sProp 𝕄) = oLoc d ↦[rowSet (nL L)]{fullShare} f := by
  rw [set_oRowK]
theorem pts_pV (q : PosShare TreeShare) (f : Buf (Elt F) (pLoc d)) :
    ((pV).view.loc (thr d L) ↦[(pV).view.set]{q} f : sProp 𝕄) = pLoc d ↦{q} f := by
  simp only [Memref.view_whole, View.set_whole]
theorem pts_sX (f : Buf (Elt F) ((thr d L).loc cc1_scratch0)) :
    ((sX).view.loc (thr d L) ↦[(sX).view.set]{fullShare} f : sProp 𝕄) = (thr d L).loc cc1_scratch0 ↦{fullShare} f := by
  simp only [Memref.view_whole, View.set_whole]
theorem pts_sP (f : Buf (Elt F) ((thr d L).loc cc1_scratch1)) :
    ((sP).view.loc (thr d L) ↦[(sP).view.set]{fullShare} f : sProp 𝕄) = (thr d L).loc cc1_scratch1 ↦{fullShare} f := by
  simp only [Memref.view_whole, View.set_whole]
theorem pts_sO (f : Buf (Elt F) ((thr d L).loc cc1_scratch2)) :
    ((sO).view.loc (thr d L) ↦[(sO).view.set]{fullShare} f : sProp 𝕄) = (thr d L).loc cc1_scratch2 ↦{fullShare} f := by
  simp only [Memref.view_whole, View.set_whole]

/-- The cells of the tile's three semaphores. -/
abbrev cell0 : GSem nD τ sig := (thr d L, .dma cc1_scoped0.sem)
abbrev cell1 : GSem nD τ sig := (thr d L, .dma cc1_scoped1.sem)
abbrev cell2 : GSem nD τ sig := (thr d L, .dma cc1_scoped2.sem)

/-- The tile's own semaphores are those three and the rest. -/
theorem ownSems0_V :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc1_scoped2.sem : SemLoc sig).isScoped .scVector = true; decide⟩⟩⟩)]

/-- The tile's own buffers are its three scratches, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- The results of all 16384 entries, from the row maxima and the table. -/
def resAll (x : Vec F S16384 .f32) (p : Vec F S16 .f32) : Vec F S16384 .f32 := fun j => val p (x j)

/-- What a tile starts with: its part of the row maxima, a share of the table, its part of the result array. -/
abbrev taskPre (x : Buf (Elt F) (xLoc d)) (p : Buf (Elt F) (pLoc d)) (o : Buf (Elt F) (oLoc d)) (n : Fin 32) : sProp 𝕄 :=
  iprop((xLoc d ↦[rowSet n]{fullShare} x) ∗ (pLoc d ↦{pq n} p) ∗ oLoc d ↦[rowSet n]{fullShare} o)

/-- The tile's 512 row maxima. -/
def xrow (x : Vec F S16384 .f32) : Vec F S512 .f32 := fun j => x ((rowK1 L).emb j)

/-- A copy into the whole of a buffer leaves what was copied. -/
theorem lands_x (fX : Vec F S512 .f32) (x : Vec F S16384 .f32) :
    (sX).view.writes (Elt F) fX [⟨Rect.whole S512, (xRowK L).view.read (Elt F) x⟩] = xrow L x := by
  funext j
  refine (View.read_writes_cons_hit (sX).view fX (Rect.whole S512) _ [] j j (Rect.emb_eq_of_coords _ _ _ fun a => ?_)).trans ?_
  · show (j a).val = 0 + 1 * (j a).val; omega
  · exact (View.read_apply _ _).trans (cast_eq _ _)
theorem lands_p (fP p : Vec F S16 .f32) :
    (sP).view.writes (Elt F) fP [⟨Rect.whole S16, (pV).view.read (Elt F) p⟩] = p := by
  funext j
  refine (View.read_writes_cons_hit (sP).view fP (Rect.whole S16) _ [] j j (Rect.emb_eq_of_coords _ _ _ fun a => ?_)).trans ?_
  · show (j a).val = 0 + 1 * (j a).val; omega
  · exact (View.read_apply _ _).trans (cast_eq _ _)

/-- The copy out of a tile's results leaves its part of the result array holding them. -/
theorem pts_res (x : Vec F S16384 .f32) (p : Vec F S16 .f32) (o : Buf (Elt F) (oLoc d)) :
    ((oRowK L).view.loc (thr d L) ↦[(oRowK L).view.set]{fullShare}
        (oRowK L).view.writes (Elt F) o [⟨Rect.whole S512, (sO).view.read (Elt F) (res (xrow L x) p)⟩] : sProp 𝕄)
      = oLoc d ↦[rowSet (nL L)]{fullShare} resAll x p := by
  rw [← pts_oRowK]
  refine pointsTo_congr fun i hi => ?_
  obtain ⟨j, -, rfl⟩ := Finset.mem_map.mp hi
  have h := View.read_writes_cons_hit (oRowK L).view o (Rect.whole S512) ((sO).view.read (Elt F) (res (xrow L x) p)) [] j j
    (Rect.emb_eq_of_coords _ _ _ fun a => by show (j a).val = 0 + 1 * (j a).val; omega)
  exact ((View.read_apply _ _).trans (cast_eq _ _)).symm.trans h

/-- One tile: from `taskPre` to `taskPre` with the results in its part of the result array. -/
theorem tile_body (hF : (K (F := F)).Facts) (x : Buf (Elt F) (xLoc d)) (p : Buf (Elt F) (pLoc d)) (o : Buf (Elt F) (oLoc d))
    (O : CellTallies nD τ sig (HIx 1)) (W : Waits sig (HIx 1)) (hO : ∀ g, O g none = 0) :
    iprop(levAts (K (F := F)).L (K (F := F)).lev ∗ emp ∗ taskPre d x p o (nL L)
        ∗ scopedBufs (thr d L) ∗ scopedSems0 (thr d L) ∗ owes (thr d L) O W)
      ⊢ wp frame (wpE (defs₀ (F := F)) 𝒱₀ (thr d L) none) Set.univ
          (cc1__sc_bin_kernel L xV (Memref.isWhole_whole _) pV (Memref.isWhole_whole _) oV (Memref.isWhole_whole _)
            sX (Memref.isWhole_whole _) sP (Memref.isWhole_whole _) sO (Memref.isWhole_whole _) cc1_scoped0 cc1_scoped1 cc1_scoped2)
          fun _ => iprop(taskPre d x p (resAll x p) (nL L) ∗ scopedBufs (thr d L) ∗ scopedSems0 (thr d L)
            ∗ ∃ W', ⌜∀ p ∈ W', p ∈ W ∨ p.2 = none⌝ ∗ owes (thr d L) O W') := by
  rw [kernel_eq]; unfold tileProg
  generalize hg : grps (F := F) L sX sP sO (copyOut L oV sO (Memref.isWhole_whole _) cc1_scoped2) 32 0 rfl = pg
  rw [(K (F := F)).scopedBufs_V hF d (cV L) (jV L), SparseCore.Cfg.scopedSems0_V (Val := Elt F) d (cV L) (jV L), ownSems0_V, ownBufs_V]
  iintro ⟨#Hlv, -, ⟨Hx, Hp, Ho⟩, ⟨⟨%fX, HX⟩, ⟨%fP, HP⟩, ⟨%fO, HO⟩, Hbufs⟩, ⟨Hs0, Hs1, Hs2, Hsems⟩, HOw⟩
  ihave Hmw := (show levAts (K (F := F)).L (K (F := F)).lev ⊢ Transfers.MayWaits (thr d L) (default : HIx 1) O from
    (K (F := F)).mayWaits_none (thr := thr d L) hO) $$ Hlv
  ihave Hx' := (Entails.of_eq (pts_xRowK (F := F) d L _).symm) $$ Hx
  ihave Ho' := (Entails.of_eq (pts_oRowK (F := F) d L _).symm) $$ Ho
  ihave Hp' := (Entails.of_eq (pts_pV (F := F) d L _ _).symm) $$ Hp
  ihave HX' := (Entails.of_eq (pts_sX (F := F) d L _).symm) $$ HX
  ihave HP' := (Entails.of_eq (pts_sP (F := F) d L _).symm) $$ HP
  ihave HO' := (Entails.of_eq (pts_sO (F := F) d L _).symm) $$ HO
  sl_exec
  ihave HX := (Entails.of_eq (show ((sX).view.loc (thr d L) ↦[(sX).view.set]{fullShare}
      (sX).view.writes (Elt F) fX [⟨Rect.whole S512, tile_body.sl.dma0_1 d L x⟩] : sProp 𝕄)
    = ((thr d L).loc cc1_scratch0 ↦{fullShare} xrow L x) from (pts_sX (F := F) d L _).trans
      (congrArg (fun f : Buf (Elt F) ((thr d L).loc cc1_scratch0) => ((thr d L).loc cc1_scratch0 ↦{fullShare} f : sProp 𝕄)) (lands_x L fX x)))) $$ HX'
  ihave HP := (Entails.of_eq (show ((sP).view.loc (thr d L) ↦[(sP).view.set]{fullShare}
      (sP).view.writes (Elt F) fP [⟨Rect.whole S16, tile_body.sl.dma0 d p⟩] : sProp 𝕄)
    = ((thr d L).loc cc1_scratch1 ↦{fullShare} p) from (pts_sP (F := F) d L _).trans
      (congrArg (fun f : Buf (Elt F) ((thr d L).loc cc1_scratch1) => ((thr d L).loc cc1_scratch1 ↦{fullShare} f : sProp 𝕄)) (lands_p fP p)))) $$ HP'
  ihave HO := (Entails.of_eq (pts_sO (F := F) d L _)) $$ HO'
  rw [← hg]
  iapply (wp_grps d L (copyOut L oV sO (Memref.isWhole_whole _) cc1_scoped2) (xrow L x) p _ 32 0 rfl fO (fun j hj => absurd hj (by omega)))
  isplitl [HX]; · iexact HX
  isplitl [HP]; · iexact HP
  isplitl [HO]; · iexact HO
  iintro ⟨HX, HP, HO⟩
  ihave HO' := (Entails.of_eq (pts_sO (F := F) d L _).symm) $$ HO
  unfold copyOut
  sl_exec
  sl_step
  isplitl [Hx' Hp' Ho']
  · isplitl [Hx']; · iapply (Entails.of_eq (pts_xRowK (F := F) d L _)); iexact Hx'
    isplitl [Hp']; · iapply (Entails.of_eq (pts_pV (F := F) d L _ _)); iexact Hp'
    iapply (Entails.of_eq (pts_res d L x p o)); iexact Ho'
  isplitl [HX HP HO' Hbufs]
  · isplitl [HX]; · iexists _; iexact HX
    isplitl [HP]; · iexists _; iexact HP
    isplitl [HO']; · iexists _; iapply (Entails.of_eq (pts_sO (F := F) d L _)); iexact HO'
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HOw
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Body

end Cert.KernelIdeal.Tile

end
-- ==== Proof.Handshake.lean ====
/- What the handshakes of the SparseCore call carry, and the two obligations on its tiles: each runs from its part to its part, and a
   SparseCore's part is its sixteen tiles' parts. -/
module

public import proofs.«01_k».proof.Proof.Tile

@[expose] public section

set_option maxRecDepth 16384

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

-- on each device: the row maxima and the table the call finds, and what the result array holds before it
variable (X : (d : Dev nD) → Buf (Elt F) (xLoc d)) (Pt : (d : Dev nD) → Buf (Elt F) (pLoc d)) (o : (d : Dev nD) → Buf (Elt F) (oLoc d))

theorem nCore_zero : (K (F := F)).nCore 0 = 2 := rfl
theorem nSub_zero : (K (F := F)).nSub 0 = 16 := rfl

/-- The number of tile `j` of SparseCore `c` of the call. -/
abbrev tileK (c : Fin ((K (F := F)).nCore 0)) (j : Fin ((K (F := F)).nSub 0)) : Fin 32 := tileOf (Fin.cast nCore_zero c) (Fin.cast nSub_zero j)

/-- The call hands each SparseCore its sixteen tiles' parts and gets them back with the results in. -/
def P : (K (F := F)).Pay (nD := nD) (Val := Elt F) (Name := ℕ) (U := UU) where
  st := fun q d c => match q with | 0 => bigSep Finset.univ fun j => taskPre d (X d) (Pt d) (o d) (tileK c j)
  dn := fun q d c => match q with | 0 => bigSep Finset.univ fun j => taskPre d (X d) (Pt d) (resAll (X d) (Pt d)) (tileK c j)
  go := fun q d c j => match q with | 0 => taskPre d (X d) (Pt d) (o d) (tileK c j)
  td := fun q d c j => match q with | 0 => taskPre d (X d) (Pt d) (resAll (X d) (Pt d)) (tileK c j)
  x := fun _ _ => iprop(emp)

instance P_storable : (P (F := F) X Pt o).IsStorable where
  st q d c := match q with
    | 0 => (inferInstance : BI.Storable (upEmb : UEmb _ 𝕄) (bigSep Finset.univ fun j => taskPre d (X d) (Pt d) (o d) (tileK (F := F) c j)))
  dn q d c := match q with
    | 0 => (inferInstance : BI.Storable (upEmb : UEmb _ 𝕄) (bigSep Finset.univ fun j => taskPre d (X d) (Pt d) (resAll (X d) (Pt d)) (tileK (F := F) c j)))
  go q d c j := match q with
    | 0 => (inferInstance : BI.Storable (upEmb : UEmb _ 𝕄) (taskPre d (X d) (Pt d) (o d) (tileK (F := F) c j)))
  td q d c j := match q with
    | 0 => (inferInstance : BI.Storable (upEmb : UEmb _ 𝕄) (taskPre d (X d) (Pt d) (resAll (X d) (Pt d)) (tileK (F := F) c j)))

/-- The coordinates of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

/-- What a tile's thread runs. -/
theorem defs₀_vector (c : Fin τ.nSC) (s : Fin τ.nSub) :
    defs₀ (F := F) (.scVector c s) 1 ()
      = SparseCore.onTile hcore1 hsub1 (fun c s => cc1__sc_bin_kernel (coordsV c s) xV (Memref.isWhole_whole _) pV (Memref.isWhole_whole _)
          oV (Memref.isWhole_whole _) sX (Memref.isWhole_whole _) sP (Memref.isWhole_whole _) sO (Memref.isWhole_whole _)
          cc1_scoped0 cc1_scoped1 cc1_scoped2) ⟨⟩ c s := rfl

/-- The tile's postcondition in the launch's words. -/
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs from its part to its part with the results in. -/
theorem tileObl (hF : (K (F := F)).Facts) : (K (F := F)).TileObl (D (F := F)) 𝒱 (P X Pt o) v₀ 0 := by
  intro d c i O W hO _ _
  simp only [show (P X Pt o).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (X d) (Pt d) (o d) O W hO).trans (wp_mono frame _ _ fun _ => obl_post)

/-- A SparseCore's part is its tiles' parts, going and coming back. -/
theorem vecSplit : (K (F := F)).VecSplit' (P X Pt o) 0 := by
  intro d c
  show bigSep Finset.univ (fun j => taskPre d (X d) (Pt d) (o d) (tileK (F := F) c j)) ⊢ |={Set.univ}=> iprop(
      (bigSep Finset.univ fun j => taskPre d (X d) (Pt d) (o d) (tileK (F := F) c j))
      ∗ ((bigSep Finset.univ fun j => taskPre d (X d) (Pt d) (resAll (X d) (Pt d)) (tileK (F := F) c j))
          -∗ bigSep Finset.univ fun j => taskPre d (X d) (Pt d) (resAll (X d) (Pt d)) (tileK (F := F) c j)))
  iintro H
  imodintro
  isplitl [H]; · iexact H
  iintro H; iexact H

/-! ## The whole buffers and the parts -/

theorem rowSet_eq (n : Fin 32) : rowSet n = (row n).set := by
  show ((View.whole (main_v4_scv : Ref sig .scVector)).slice (row n)).set = _
  rw [View.set_slice]; exact Finset.map_refl
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdiv h
theorem rows_cover : (Finset.univ : Finset (Fin 32)).biUnion rowSet = Finset.univ :=
  (Finset.biUnion_congr rfl fun i _ => rowSet_eq i).trans (Rect.biUnion_part hdiv)

theorem x_rows (d : Dev nD) (f : Buf (Elt F) (xLoc d)) :
    (xLoc d ↦{fullShare} f : sProp 𝕄) = bigSep Finset.univ fun n : Fin 32 => xLoc d ↦[rowSet n]{fullShare} f := by
  rw [← pointsTo_biUnion Finset.univ (ℓ := xLoc d) rowSet rows_disjoint, rows_cover]; try rfl
theorem o_rows (d : Dev nD) (f : Buf (Elt F) (oLoc d)) :
    (oLoc d ↦{fullShare} f : sProp 𝕄) = bigSep Finset.univ fun n : Fin 32 => oLoc d ↦[rowSet n]{fullShare} f := by
  rw [← pointsTo_biUnion Finset.univ (ℓ := oLoc d) rowSet rows_disjoint, rows_cover]; try rfl
theorem p_shares (d : Dev nD) (f : Buf (Elt F) (pLoc d)) :
    (pLoc d ↦{fullShare} f : sProp 𝕄) = bigSep Finset.univ fun n : Fin 32 => pLoc d ↦{pq n} f :=
  pointsTo_leaves Finset.univ f 5 fullShare

/-- The three buffers whole are the thirty-two tiles' parts. -/
theorem parts (d : Dev nD) (x : Buf (Elt F) (xLoc d)) (p : Buf (Elt F) (pLoc d)) (f : Buf (Elt F) (oLoc d)) :
    (iprop((xLoc d ↦{fullShare} x) ∗ (pLoc d ↦{fullShare} p) ∗ oLoc d ↦{fullShare} f) : sProp 𝕄)
      = bigSep Finset.univ fun n : Fin 32 => taskPre d x p f n := by
  rw [x_rows, p_shares, o_rows, ← bigSep_sep', ← bigSep_sep']

/-- The pairs of a SparseCore and a tile, numbered. -/
def tileEquiv : Fin 2 × Fin 16 ≃ Fin 32 where
  toFun cj := tileOf cj.1 cj.2
  invFun n := (⟨n.val / 16, by omega⟩, ⟨n.val % 16, by omega⟩)
  left_inv := by rintro ⟨c, j⟩; ext <;> simp [tileOf] <;> omega
  right_inv := by intro n; ext; simp [tileOf]; omega

/-- The parts over the SparseCores and their tiles are the parts over the thirty-two. -/
theorem bigSep_tiles (Φ : Fin 32 → sProp 𝕄) :
    (bigSep Finset.univ fun c : Fin ((K (F := F)).nCore 0) => bigSep Finset.univ fun j : Fin ((K (F := F)).nSub 0) => Φ (tileK c j))
      = bigSep Finset.univ Φ := by
  rw [bigSep_univ_equiv tileEquiv Φ, bigSep_univ_prod]
  rfl

end Cert.KernelIdeal.Tile

end
-- ==== Proof.Main.lean ====
/- @main on the TensorCore: the host operations, the region of the TensorCore call and the SparseCore call, from every unscoped
   buffer at the launch contents to every unscoped buffer at the contents the program computes. -/
module

public import proofs.«01_k».proof.Proof.RegionSeg
public import proofs.«01_k».proof.Proof.Handshake

@[expose] public section

set_option maxRecDepth 16384

noncomputable section

namespace Cert.KernelIdeal.Tile

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seqK seq_bind_seqK)
open Idealize.ShloMosaic.Tactic

variable {F : FTy → Type} [FloatOps F]

local notation "𝕄" => MT nD τ sig (HIx 1) (Elt F) ℕ UU ℕ

/-! ## The host operations -/

/-- The padded table and the transposed probabilities. -/
def opsA : List (HloOp τ sig (Elt F)) :=
  [StableHlo.nullary main_cst (constant S_ .f32 0x00000000#32),
   StableHlo.unary main_cst main_v0 (broadcastInDim S6 ![] bcast_S_S6 : (⟨S_, .f32⟩ : BufTy).Contents (Elt F) → (⟨S6, .f32⟩ : BufTy).Contents (Elt F)),
   StableHlo.binary main_arg1 main_v0 main_v1 ((fun a b => concatenate S16 0 [⟨S10, a⟩, ⟨S6, b⟩] concatenates_S10_S6_S16_d0) : (⟨S10, .f32⟩ : BufTy).Contents (Elt F) → (⟨S6, .f32⟩ : BufTy).Contents (Elt F) → (⟨S16, .f32⟩ : BufTy).Contents (Elt F)),
   StableHlo.unary main_arg0 main_v2 ((transpose S1000x16384 [1, 0] · transposes_S16384x1000_S1000x16384_1_0) : (⟨S16384x1000, .f32⟩ : BufTy).Contents (Elt F) → (⟨S1000x16384, .f32⟩ : BufTy).Contents (Elt F))]
/-- The row maxima as one line. -/
def opsB : List (HloOp τ sig (Elt F)) :=
  [StableHlo.reshape main_v3 main_v4 (rfl : (.f32 : EltTy) = .f32) shapeCasts_S128x128_S16384]
/-- The second result. -/
def opsC : List (HloOp τ sig (Elt F)) :=
  [StableHlo.unary main_v1 main_v6 ((extractStridedSlice S1 ![0] · slices_S16_S1_0) : (⟨S16, .f32⟩ : BufTy).Contents (Elt F) → (⟨S1, .f32⟩ : BufTy).Contents (Elt F)),
   StableHlo.reshape main_v6 main_v7 (rfl : (.f32 : EltTy) = .f32) shapeCasts_S1_S_,
   StableHlo.nullary main_cst_0 (constant S_ .f32 0x00000000#32),
   StableHlo.binary main_v7 main_cst_0 main_v8 (mulf : (⟨S_, .f32⟩ : BufTy).Contents (Elt F) → (⟨S_, .f32⟩ : BufTy).Contents (Elt F) → (⟨S_, .f32⟩ : BufTy).Contents (Elt F)),
   StableHlo.reshape main_v8 main_v9 (rfl : (.f32 : EltTy) = .f32) shapeCasts_S_S1x1,
   StableHlo.unary main_v9 main_v10 (broadcastInDim S16384x1000 ![0, 1] bcast_S1x1_S16384x1000_0_1 : (⟨S1x1, .f32⟩ : BufTy).Contents (Elt F) → (⟨S16384x1000, .f32⟩ : BufTy).Contents (Elt F))]

/-- The call of the TensorCore region. -/
abbrev regionCall : Prog (TpuEff nD τ sig (Elt F) (SparseCore.Sig (ΛP (F := F)) 1) .tc) PUnit :=
  Prog.lift (.customCall (SparseCore.inner (Pipeline.entry 0)) ())

/-- @main is the host operations around the two calls. -/
theorem main_eq (d : Dev nD) : main (F := F) d
    = StableHlo.seq opsA >>= fun _ => regionCall >>= fun _ => StableHlo.seq opsB >>= fun _ => (K (F := F)).run d 0 >>= fun _ =>
        StableHlo.seq opsC >>= fun _ => pure ⟨⟩ := by
  rw [seq_bind_seqK, seq_bind_seqK, seq_bind_seqK]
  rfl

/-! ## The contents -/

/-- The buffers @main holds throughout: the unscoped ones. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

/-- After the operations before the TensorCore call. -/
def vA (W : Valuation τ sig (Elt F)) : Valuation τ sig (Elt F) := after opsA W
/-- After the TensorCore call. -/
def vR (W : Valuation τ sig (Elt F)) : Valuation τ sig (Elt F) :=
  Function.update (vA W) (Proc.devRef .tc main_v3) (colMax (vA W main_v2))
/-- Before the SparseCore call. -/
def vB (W : Valuation τ sig (Elt F)) : Valuation τ sig (Elt F) := after opsB (vR W)
/-- After the SparseCore call. -/
def vC (W : Valuation τ sig (Elt F)) : Valuation τ sig (Elt F) :=
  Function.update (vB W) (Proc.devRef .tc main_v5) (resAll (vB W main_v4) (vB W main_v1))
/-- At the end. -/
def vD (W : Valuation τ sig (Elt F)) : Valuation τ sig (Elt F) := after opsC (vC W)

theorem sub_uc (s : Finset (DevRef τ sig)) (h : ∀ b ∈ s, b ∈ ucRefs) : s ⊆ ucRefs := h

theorem opsA_sub : ∀ op ∈ (opsA : List (HloOp τ sig (Elt F))), op.bufs ⊆ ucRefs := by
  intro op h
  simp only [opsA, List.mem_cons, List.not_mem_nil, or_false] at h
  rcases h with rfl | rfl | rfl | rfl
  · show ({Proc.devRef .tc main_cst} : Finset (DevRef τ sig)) ⊆ ucRefs; decide
  · show ({Proc.devRef .tc main_cst, Proc.devRef .tc main_v0} : Finset (DevRef τ sig)) ⊆ ucRefs; decide
  · show ({Proc.devRef .tc main_arg1, Proc.devRef .tc main_v0, Proc.devRef .tc main_v1} : Finset (DevRef τ sig)) ⊆ ucRefs; decide
  · show ({Proc.devRef .tc main_arg0, Proc.devRef .tc main_v2} : Finset (DevRef τ sig)) ⊆ ucRefs; decide
theorem opsB_sub : ∀ op ∈ (opsB : List (HloOp τ sig (Elt F))), op.bufs ⊆ ucRefs := by
  intro op h
  simp only [opsB, List.mem_cons, List.not_mem_nil, or_false] at h
  subst h
  show ({Proc.devRef .tc main_v3, Proc.devRef .tc main_v4} : Finset (DevRef τ sig)) ⊆ ucRefs; decide
theorem opsC_sub : ∀ op ∈ (opsC : List (HloOp τ sig (Elt F))), op.bufs ⊆ ucRefs := by
  intro op h
  simp only [opsC, List.mem_cons, List.not_mem_nil, or_false] at h
  rcases h with rfl | rfl | rfl | rfl | rfl | rfl
  · show ({Proc.devRef .tc main_v1, Proc.devRef .tc main_v6} : Finset (DevRef τ sig)) ⊆ ucRefs; decide
  · show ({Proc.devRef .tc main_v6, Proc.devRef .tc main_v7} : Finset (DevRef τ sig)) ⊆ ucRefs; decide
  · show ({Proc.devRef .tc main_cst_0} : Finset (DevRef τ sig)) ⊆ ucRefs; decide
  · show ({Proc.devRef .tc main_v7, Proc.devRef .tc main_cst_0, Proc.devRef .tc main_v8} : Finset (DevRef τ sig)) ⊆ ucRefs; decide
  · show ({Proc.devRef .tc main_v8, Proc.devRef .tc main_v9} : Finset (DevRef τ sig)) ⊆ ucRefs; decide
  · show ({Proc.devRef .tc main_v9, Proc.devRef .tc main_v10} : Finset (DevRef τ sig)) ⊆ ucRefs; decide
theorem opsA_fresh : ∀ op ∈ (opsA : List (HloOp τ sig (Elt F))), op.fresh = ∅ := by
  intro op h
  simp only [opsA, List.mem_cons, List.not_mem_nil, or_false] at h
  rcases h with rfl | rfl | rfl | rfl <;> rfl
theorem opsB_fresh : ∀ op ∈ (opsB : List (HloOp τ sig (Elt F))), op.fresh = ∅ := by
  intro op h
  simp only [opsB, List.mem_cons, List.not_mem_nil, or_false] at h
  subst h; rfl
theorem opsC_fresh : ∀ op ∈ (opsC : List (HloOp τ sig (Elt F))), op.fresh = ∅ := by
  intro op h
  simp only [opsC, List.mem_cons, List.not_mem_nil, or_false] at h
  rcases h with rfl | rfl | rfl | rfl | rfl | rfl <;> rfl

/-! ## The TensorCore call -/

/-- The pipeline's rounds and tokens of one device. -/
def G (d : Dev nD) : sProp 𝕄 :=
  iprop(Pipeline.cellsGhost (Pipeline.pin (pcfgs (F := F)) adm) EP 0 d ∗ Pipeline.toksInit (Pipeline.pin (pcfgs (F := F)) adm) EP 0 d)

set_option backward.isDefEq.respectTransparency.types false in
/-- The region at the two valuations. -/
def regW (bd : ℕ) (W : Dev nD → Valuation τ sig (Elt F)) :
    Pipeline.RegionSeg (pcfgs (F := F)) adm (pdats bd fun c b => vA (W c) b) none (defs₀ (F := F)) 𝒱₀ (K (F := F)).L (K (F := F)).lev 0 :=
  reg bd (fun c b => vA (W c) b) (fun c b => vR (W c) b) (fun c => by unfold vR; exact Function.update_self _ _ _)
      (fun c b hb => by unfold vR; exact Function.update_of_ne (fun h => hb (Proc.devRef_injective _ h)) _ _)

/-- The call as the pipeline's layer makes it. -/
abbrev innerCall : Prog (TpuEff nD τ sig (Elt F) (ΛP (F := F)) .tc) PUnit := Prog.lift (.customCall (Pipeline.entry 0) ())

theorem liftProg_innerCall : SparseCore.liftProg (innerCall (F := F)) = regionCall := rfl

/-- A run of the call in the pipeline's layer is one of the program's. -/
theorem wp_inner (d : Dev nD) (Φ : PUnit.{1} → sProp 𝕄) {X : sProp 𝕄}
    (h : X ⊢ wp frame (wpE (D (F := F)) 𝒱 (T d) none) Set.univ innerCall Φ) :
    X ⊢ wp frame (wpE ((K (F := F)).defs (D (F := F))) 𝒱 (T d) none) Set.univ regionCall Φ := by
  rw [← liftProg_innerCall]
  exact h.trans ((K (F := F)).wp_liftProg (D (F := F)) 𝒱 (T d) Set.univ none innerCall Φ)

set_option backward.isDefEq.respectTransparency.types false in
/-- The TensorCore call: the buffers go from `vA` to `vR`. -/
theorem wp_region [∀ e, Nonempty (Elt F e)] (bd : ℕ) (W : Dev nD → Valuation τ sig (Elt F)) (d : Dev nD) (Φ : PUnit.{1} → sProp 𝕄) :
    iprop(levAts (K (F := F)).L (K (F := F)).lev ∗ G d ∗ boundary (T d) ∗ held (T d) ucRefs (vA (W d)) ∗ debts bd d
        ∗ ((boundary (T d) ∗ held (T d) ucRefs (vR (W d)) ∗ debts bd d) -∗ Φ ⟨⟩))
      ⊢ wp frame (wpE ((K (F := F)).defs (D (F := F))) 𝒱 (T d) none) Set.univ regionCall Φ := by
  refine wp_inner d Φ ?_
  have hR := Pipeline.RegionSeg.wp (pcfgs (F := F)) adm (pdats bd fun c b => vA (W c) b) none (Gen.cellOf_inj) EP (defs₀ (F := F)) 𝒱₀ (K (F := F)).L (K (F := F)).lev
    (regW bd W) d none (fun _ h => nomatch h) (fun _ => .ret PUnit.unit) Φ
  refine BI.Entails.trans ?_ hR
  rw [show (regW bd W).pre d = iprop(unscopedBufs d (fun b => vA (W d) b) ∗ debts bd d) from rfl,
    show (regW bd W).post d = iprop(unscopedBufs d (fun b => vR (W d) b) ∗ debts bd d) from rfl, unscopedBufs_held, unscopedBufs_held]
  unfold G
  show iprop(levAts (K (F := F)).L (K (F := F)).lev ∗ (Pipeline.cellsGhost (Pipeline.pin (pcfgs (F := F)) adm) EP 0 d ∗ Pipeline.toksInit (Pipeline.pin (pcfgs (F := F)) adm) EP 0 d)
      ∗ boundary (T d) ∗ held (T d) ucRefs (vA (W d)) ∗ debts bd d
        ∗ ((boundary (T d) ∗ held (T d) ucRefs (vR (W d)) ∗ debts bd d) -∗ Φ ⟨⟩)) ⊢
      (iprop(((boundary (T d) ∗ held (T d) ucRefs (vR (W d)) ∗ debts bd d) -∗ wp frame (wpE (D (F := F)) 𝒱 (T d) none) Set.univ (Prog.ret PUnit.unit) Φ)
        ∗ boundary (T d) ∗ (held (T d) ucRefs (vA (W d)) ∗ debts bd d) ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
  iintro ⟨Hl, ⟨Hc, Ht⟩, Hb, Hu, HO, Hk⟩
  isplitl [Hk]
  · iintro ⟨Hb, Hu, HO⟩
    rw [wp_ret]; imodintro
    iapply Hk
    isplitl [Hb]; · iexact Hb
    isplitl [Hu]; · iexact Hu
    iexact HO
  isplitl [Hb]; · iexact Hb
  isplitl [Hu HO]
  · isplitl [Hu]; · iexact Hu
    iexact HO
  isplitl [Hl]; · iexact Hl
  isplitl [Hc]; · iexact Hc
  iexact Ht

/-! ## The SparseCore call -/

/-- The three buffers of the call. -/
def scRefs : Finset (DevRef τ sig) := {Proc.devRef .tc main_v4, Proc.devRef .tc main_v1, Proc.devRef .tc main_v5}

/-- The call's buffers out of the ones held. -/
theorem held_sc (d : Dev nD) (W : Valuation τ sig (Elt F)) :
    (held (T d) ucRefs W : sProp 𝕄)
      = iprop(((xLoc d ↦{fullShare} W main_v4) ∗ (pLoc d ↦{fullShare} W main_v1) ∗ oLoc d ↦{fullShare} W main_v5) ∗ held (T d) (ucRefs \ scRefs) W) := by
  rw [StableHlo.held_sub_split (T d) (show scRefs ⊆ ucRefs by decide) W]
  congr 1
  unfold held scRefs
  rw [SparseCore.bigSep_insert' (by decide), SparseCore.bigSep_insert' (by decide), bigSep_singleton]

/-- What the call is handed and hands back, from the contents at launch. -/
abbrev PW (W : Dev nD → Valuation τ sig (Elt F)) : (K (F := F)).Pay (nD := nD) (Val := Elt F) (Name := ℕ) (U := UU) :=
  P (fun d => vB (W d) main_v4) (fun d => vB (W d) main_v1) (fun d => vB (W d) main_v5)

theorem st_eq (W : Dev nD → Valuation τ sig (Elt F)) (d : Dev nD) :
    (bigSep Finset.univ fun c : Fin ((K (F := F)).nCore 0) => (PW W).st 0 d c)
      = iprop((xLoc d ↦{fullShare} vB (W d) main_v4) ∗ (pLoc d ↦{fullShare} vB (W d) main_v1) ∗ oLoc d ↦{fullShare} vB (W d) main_v5) := by
  rw [parts, ← bigSep_tiles (F := F)]; rfl
theorem dn_eq (W : Dev nD → Valuation τ sig (Elt F)) (d : Dev nD) :
    (bigSep Finset.univ fun c : Fin ((K (F := F)).nCore 0) => (PW W).dn 0 d c)
      = iprop((xLoc d ↦{fullShare} vB (W d) main_v4) ∗ (pLoc d ↦{fullShare} vB (W d) main_v1)
          ∗ oLoc d ↦{fullShare} resAll (vB (W d) main_v4) (vB (W d) main_v1)) := by
  rw [parts, ← bigSep_tiles (F := F)]; rfl

theorem vC_out (W : Valuation τ sig (Elt F)) : vC W main_v5 = resAll (vB W main_v4) (vB W main_v1) := by
  unfold vC; exact Function.update_self _ _ _
theorem vC_ne (W : Valuation τ sig (Elt F)) (b : DevRef τ sig) (h : b ≠ Proc.devRef .tc main_v5) : vC W b = vB W b := by
  unfold vC; exact Function.update_of_ne h _ _

/-- The SparseCore call: the buffers go from `vB` to `vC`. -/
theorem wp_sc (W : Dev nD → Valuation τ sig (Elt F)) (κ : GSem nD τ sig → ℕ) (d : Dev nD) (Φ : PUnit.{1} → sProp 𝕄) :
    iprop((K (F := F)).ctx EH (PW W) κ ∗ (K (F := F)).tcSt EH d 0 ∗ held (T d) ucRefs (vB (W d))
        ∗ (((K (F := F)).tcSt EH d 1 ∗ held (T d) ucRefs (vC (W d))) -∗ Φ ⟨⟩))
      ⊢ wp frame (wpE ((K (F := F)).defs (D (F := F))) 𝒱 (T d) none) Set.univ ((K (F := F)).run d 0) Φ := by
  have hrest : (held (T d) (ucRefs \ scRefs) (vB (W d)) : sProp 𝕄) = held (T d) (ucRefs \ scRefs) (vC (W d)) :=
    StableHlo.held_congr (T d) fun b hb => (vC_ne (W d) b fun h => (Finset.mem_sdiff.mp hb).2 (h ▸ by decide)).symm
  rw [held_sc, held_sc d (vC (W d)), vC_out, vC_ne (W d) (Proc.devRef .tc main_v4) (by decide), vC_ne (W d) (Proc.devRef .tc main_v1) (by decide), ← hrest]
  iintro ⟨Hctx, Hst, ⟨Hx, Hr⟩, Hk⟩
  iapply ((K (F := F)).wp_run (D (F := F)) 𝒱 (EH := EH) (P := PW W) κ d 0)
  isplitl [Hctx]; · iexact Hctx
  isplitl [Hst]; · iexact Hst
  isplitl [Hx]; · rw [st_eq]; iexact Hx
  rw [dn_eq]
  iintro ⟨Hst, Hx⟩
  iapply Hk
  isplitl [Hst]; · iexact Hst
  isplitl [Hx]; · iexact Hx
  iexact Hr

/-- The core's debts out of its state, and back. -/
theorem tcSt_debts (d : Dev nD) :
    (K (F := F)).tcSt EH d 0 ⊢ (iprop(∃ bd : ℕ, debts bd d ∗ (debts bd d -∗ (K (F := F)).tcSt EH d 0)) : sProp 𝕄) := by
  unfold SparseCore.Cfg.tcSt
  iintro ⟨HO, Hrest⟩
  iexists _
  isplitl [HO]; · iexact HO
  iintro HO
  isplitl [HO]; · iexact HO
  iexact Hrest

/-! ## @main -/

variable (m : (ℓ : Loc nD τ sig) → Buf (Elt F) ℓ) (ρ : Dev nD → PrngReg)

/-- The contents at launch, per device. -/
def w₀ (d : Dev nD) : Valuation τ sig (Elt F) := fun b => m (d, b)

theorem launch_held (d : Dev nD) : (unscopedBufs d (fun b => m ((SparseCore.T d).loc b)) : sProp 𝕄) = held (SparseCore.T d) ucRefs (w₀ m d) := by
  rw [← unscopedBufs_held]
  unfold unscopedBufs
  exact bigSep_congr fun b _ => rfl

/-- What @main ends with. -/
abbrev FIN (d : Dev nD) : sProp 𝕄 := held (T d) ucRefs (vD (w₀ m d))

/-- @main on device `d`: every unscoped buffer ends at `vD` of the launch contents. -/
theorem hmain [∀ e, Nonempty (Elt F e)] (κ : GSem nD τ sig → ℕ) (d : Dev nD) :
    iprop((K (F := F)).ctx EH (PW (w₀ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held, main_eq]
  iintro ⟨#Hctx, Hst, ⟨Hb, Hu, Hts, -⟩, HG⟩
  iapply (StableHlo.wp_seq 𝒱 none Set.univ d ucRefs _ opsA opsA_sub opsA_fresh (w₀ m d)) $$ [Hb Hu]
  · isplitl [Hb]; · iexact Hb
    iexact Hu
  iintro ⟨Hb, Hu⟩
  rw [wp_bind]
  ihave Hs := (tcSt_debts (F := F) d) $$ Hst
  icases Hs with ⟨%bd, HO, Hback⟩
  iapply (wp_region bd (w₀ m) d)
  isplitr; · iapply ((K (F := F)).ctx_levAts κ); iexact Hctx
  isplitl [HG]; · iexact HG
  isplitl [Hb]; · iexact Hb
  isplitl [Hu]; · iexact Hu
  isplitl [HO]; · iexact HO
  iintro ⟨Hb, Hu, HO⟩
  ispecialize Hback $$ HO
  iapply (StableHlo.wp_seq 𝒱 none Set.univ d ucRefs _ opsB opsB_sub opsB_fresh (vR (w₀ m d))) $$ [Hb Hu]
  · isplitl [Hb]; · iexact Hb
    iexact Hu
  iintro ⟨Hb, Hu⟩
  rw [wp_bind]
  iapply (wp_sc (w₀ m) κ d)
  isplitr; · iexact Hctx
  isplitl [Hback]; · iexact Hback
  isplitl [Hu]; · iexact Hu
  iintro ⟨Hst, Hu⟩
  iapply (StableHlo.wp_seq 𝒱 none Set.univ d ucRefs _ opsC opsC_sub opsC_fresh (vC (w₀ m d))) $$ [Hb Hu]
  · isplitl [Hb]; · iexact Hb
    iexact Hu
  iintro ⟨Hb, Hu⟩
  rw [wp_pure]; imodintro
  isplitl [Hst]; · iexact Hst
  isplitl [Hu]; · iexact Hu
  isplitl [Hb] <;> iassumption

/-- What the final memory is: every unscoped buffer at `vD` of the launch contents. -/
def fq (d : Dev nD) (s' : Phys nD τ sig (Elt F)) : Prop := ∀ b ∈ ucRefs, s'.mem.mem (d, b) = vD (w₀ m d) b

theorem hfin (d : Dev nD) (s' : Phys nD τ sig (Elt F)) : iprop(FIN m d ∗ SI s') ⊢ (⌜fq m d s'⌝ : sProp 𝕄) := by
  have h1 : ∀ b ∈ (ucRefs : Finset (DevRef τ sig)), iprop(FIN m d ∗ SI s') ⊢ (⌜s'.mem.mem (d, b) = vD (w₀ m d) b⌝ : sProp 𝕄) := by
    intro b hb
    iintro ⟨H, HSI⟩
    ihave Hbuf := (show FIN m d ⊢ ((d, b) ↦{fullShare} vD (w₀ m d) b : sProp 𝕄) from bigSep_elim hb) $$ H
    ihave H := (SI_pointsTo_agree (st := s') (ℓ := (d, b)) (I := Finset.univ) (q := fullShare) (f := vD (w₀ m d) b)) $$ [HSI Hbuf]
    · isplitl [HSI] <;> iassumption
    icases H with %h2
    ipureintro; exact funext fun i => h2 i (Finset.mem_univ i)
  have h2 : iprop(FIN m d ∗ SI s') ⊢ (⌜∀ b : (ucRefs : Finset (DevRef τ sig)), s'.mem.mem (d, b.1) = vD (w₀ m d) b.1⌝ : sProp 𝕄) :=
    (forall_intro fun b : (ucRefs : Finset (DevRef τ sig)) => h1 b.1 b.2).trans
      (pure_forall (φ := fun b : (ucRefs : Finset (DevRef τ sig)) => s'.mem.mem (d, b.1) = vD (w₀ m d) b.1)).2
  exact h2.trans (BI.pure_mono fun h b hb => h ⟨b, hb⟩)

end Cert.KernelIdeal.Tile

end
-- ==== Proof.Launch.lean ====
/- The launch: the ghost state the threads start from, and the whole program's run, which ends with every unscoped buffer at the
   contents the program computes and every semaphore at zero. -/
module

public import proofs.«01_k».proof.Proof.Main

@[expose] public section

set_option maxRecDepth 16384

noncomputable section

namespace Cert.KernelIdeal.Tile

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The pipeline's part of the launch element. -/
def uP : UR sig nD τ :=
  initOf (Pipeline.cells (Pipeline.pin (pcfgs (F := F)) adm) Gen.cellOf_inj) (Pipeline.launchToks (Pipeline.pin (pcfgs (F := F)) adm) Gen.cellOf_inj)

/-- The launch element: the handshakes' rounds, the pipeline's, no counters. -/
def u₀ : UU := (initOf (K (F := F)).hsCells (K (F := F)).hsToks, (uP (F := F), 1))

/-- The pipeline's ghost state, per device. -/
theorem fund_G : (BI.own (EP (uP (F := F))) : sProp 𝕄) ⊢ iprop(|==> bigSep Finset.univ fun d : Dev nD => G (F := F) d) := by
  have h := Pipeline.fund_ghost (Pipeline.pin (pcfgs (F := F)) adm) (EP : Emb (UR sig nD τ) 𝕄) Gen.cellOf_inj
  refine BI.Entails.trans h (BI.bupd_mono ?_)
  unfold G
  rw [bigSep_sep']
  rw [show (bigSep Finset.univ fun c : Dev nD => bigSep Finset.univ fun p => (Pipeline.cellsGhost (Pipeline.pin (pcfgs (F := F)) adm) EP p c : sProp 𝕄))
      = bigSep Finset.univ fun c : Dev nD => Pipeline.cellsGhost (Pipeline.pin (pcfgs (F := F)) adm) EP 0 c from
    bigSep_congr fun _ _ => bigSep_univ_of_subsingleton (0 : Fin 1),
    show (bigSep Finset.univ fun c : Dev nD => bigSep Finset.univ fun p => (Pipeline.toksInit (Pipeline.pin (pcfgs (F := F)) adm) EP p c : sProp 𝕄))
      = bigSep Finset.univ fun c : Dev nD => Pipeline.toksInit (Pipeline.pin (pcfgs (F := F)) adm) EP 0 c from
    bigSep_congr fun _ _ => bigSep_univ_of_subsingleton (0 : Fin 1)]
  exact BI.Entails.refl _

/-- Nothing, any number of times, is nothing. -/
theorem emps {I : Type} (s : Finset I) : (bigSep s fun _ => iprop(emp)) = (iprop(emp) : sProp 𝕄) := bigSep_emp_const s

/-- The launch element is the handshakes' rounds and each device's pipeline state; the payloads add nothing. -/
theorem hu₀ (W : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PW W).x q thr) := by
  unfold u₀
  iintro Hu
  ihave H := (ownU_pair (initOf (K (F := F)).hsCells (K (F := F)).hsToks) ((uP (F := F), 1) : UR sig nD τ × Counters)) $$ Hu
  icases H with ⟨HH, HR⟩
  ihave H := (own_pair_emb (embR : Emb (UR sig nD τ × Counters) 𝕄) (uP (F := F)) (1 : Counters)) $$ HR
  icases H with ⟨HP, -⟩
  ihave HP' := (show BI.own (((Emb.inl : Emb (UR sig nD τ) (UR sig nD τ × Counters)).trans embR) (uP (F := F))) ⊢ (BI.own (EP (uP (F := F))) : sProp 𝕄)
    from BI.Entails.refl _) $$ HP
  imod (fund_G (F := F)) $$ HP' with HG
  imodintro
  isplitl [HH]; · iexact HH
  isplitl [HG]; · iexact HG
  rw [show (bigSep Finset.univ fun thr : Thread nD τ => bigSep Finset.univ fun q : Fin 1 => (PW W).x q thr) = bigSep Finset.univ fun _ => (iprop(emp) : sProp 𝕄) from
    bigSep_congr fun _ _ => bigSep_univ_of_subsingleton (0 : Fin 1), emps]
  iempintro

variable (m : (ℓ : Loc nD τ sig) → Buf (Elt F) ℓ) (ρ : Dev nD → PrngReg)

/-- What the run ends with: every unscoped buffer at `vD` of the launch contents, every semaphore at zero. -/
def QC : PUnit × MemSt nD τ sig (Elt F) → Prop :=
  fun r => (∀ c : Dev nD, ∀ b ∈ ucRefs, r.2.mem (c, b) = vD (w₀ m c) b) ∧ r.2.sem = fun _ => 0

/-- The program's run. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PW (w₀ m)) (A := ∅) facts v₀
    (fun q hq => match q with | 0 => nomatch hq)
    (fun q _ => match q with | 0 => tileObl _ _ _ facts)
    (fun q _ => match q with | 0 => SparseCore.Cfg.VecSplit.of_plain (vecSplit _ _ _))
    m ρ main G (FIN m) (u₀ (F := F)) (sep_elim_left.trans (hu₀ (w₀ m))) (hmain m ρ) (fq m) (hfin m) (QC m) (fun _ h hz => ⟨h, hz⟩)

end Cert.KernelIdeal.Tile

end
-- ==== Proof.Values.lean ====
/- The contents that the program leaves, read at its two arguments and its two results. -/
module

public import proofs.«01_k».proof.Proof.Main
public import Idealize.ShloMosaic.Lib.Pointwise

@[expose] public section

set_option maxRecDepth 16384

noncomputable section

namespace Cert.KernelIdeal.Tile

open Cert.KernelIdeal Cert.KernelIdeal.Gen
open Idealize.ShloMosaic
open Idealize.ShloMosaic.TcCoe
open Idealize.ShloMosaic.StableHlo

variable {F : FTy → Type} [FloatOps F] (W : Valuation τ sig (Elt F))

/-- The table with its six padding entries. -/
def padT (p : Vec F S10 .f32) : Vec F S16 .f32 :=
  concatenate S16 0 [⟨S10, p⟩, ⟨S6, broadcastInDim S6 ![] bcast_S_S6 (constant S_ .f32 0x00000000#32)⟩] concatenates_S10_S6_S16_d0
/-- The row maxima, as the TensorCore call and the reshape after it leave them. -/
def rowMax (x : Vec F S16384x1000 .f32) : Vec F S16384 .f32 :=
  shapeCast S16384 (colMax (transpose S1000x16384 [1, 0] x transposes_S16384x1000_S1000x16384_1_0)) shapeCasts_S128x128_S16384
/-- The second result: the table's first entry times zero, at every place. -/
def zeros (t : Vec F S16 .f32) : Vec F S16384x1000 .f32 :=
  broadcastInDim S16384x1000 ![0, 1] bcast_S1x1_S16384x1000_0_1
    (shapeCast S1x1 (mulf (shapeCast S_ (extractStridedSlice S1 ![0] t slices_S16_S1_0) shapeCasts_S1_S_) (constant S_ .f32 0x00000000#32)) shapeCasts_S_S1x1)

/-! ## Before the TensorCore call -/

theorem vA_arg0 : vA W (Proc.devRef .tc main_arg0) = W (Proc.devRef .tc main_arg0) := by
  unfold vA opsA; after_results
theorem vA_arg1 : vA W (Proc.devRef .tc main_arg1) = W (Proc.devRef .tc main_arg1) := by
  unfold vA opsA; after_results
theorem vA_v1 : vA W (Proc.devRef .tc main_v1) = padT (W (Proc.devRef .tc main_arg1)) := by
  unfold vA opsA; after_results; rfl
theorem vA_v2 : vA W (Proc.devRef .tc main_v2) = transpose S1000x16384 [1, 0] (W (Proc.devRef .tc main_arg0)) transposes_S16384x1000_S1000x16384_1_0 := by
  unfold vA opsA; after_results

/-! ## Before the SparseCore call -/

theorem vR_v3 : vR W (Proc.devRef .tc main_v3) = colMax (vA W main_v2) := Function.update_self _ _ _
theorem vR_ne (b : DevRef τ sig) (h : b ≠ Proc.devRef .tc main_v3) : vR W b = vA W b := Function.update_of_ne h _ _

theorem vB_arg0 : vB W (Proc.devRef .tc main_arg0) = W (Proc.devRef .tc main_arg0) := by
  unfold vB opsB; after_results; rw [vR_ne W _ (by decide), vA_arg0]
theorem vB_arg1 : vB W (Proc.devRef .tc main_arg1) = W (Proc.devRef .tc main_arg1) := by
  unfold vB opsB; after_results; rw [vR_ne W _ (by decide), vA_arg1]
theorem vB_v1 : vB W (Proc.devRef .tc main_v1) = padT (W (Proc.devRef .tc main_arg1)) := by
  unfold vB opsB; after_results; rw [vR_ne W _ (by decide), vA_v1]
theorem vB_v4 : vB W (Proc.devRef .tc main_v4) = rowMax (W (Proc.devRef .tc main_arg0)) := by
  unfold vB opsB; after_results
  have h : vR W (Proc.devRef .tc main_v3) = colMax (transpose S1000x16384 [1, 0] (W (Proc.devRef .tc main_arg0)) transposes_S16384x1000_S1000x16384_1_0) :=
    (vR_v3 W).trans (congrArg colMax (vA_v2 W))
  rw [h]; rfl

/-! ## At the end -/

theorem vC_off (b : DevRef τ sig) (h : b ≠ Proc.devRef .tc main_v5) : vC W b = vB W b := Function.update_of_ne h _ _

/-- The probabilities end as they were. -/
theorem vD_arg0 : vD W (Proc.devRef .tc main_arg0) = W (Proc.devRef .tc main_arg0) := by
  unfold vD opsC; after_results; rw [vC_off W _ (by decide), vB_arg0]
/-- The table ends as it was. -/
theorem vD_arg1 : vD W (Proc.devRef .tc main_arg1) = W (Proc.devRef .tc main_arg1) := by
  unfold vD opsC; after_results; rw [vC_off W _ (by decide), vB_arg1]
/-- The first result. -/
theorem vD_v5 : vD W (Proc.devRef .tc main_v5) = resAll (rowMax (W (Proc.devRef .tc main_arg0))) (padT (W (Proc.devRef .tc main_arg1))) := by
  unfold vD opsC; after_results
  have h : vC W (Proc.devRef .tc main_v5) = resAll (vB W main_v4) (vB W main_v1) := Function.update_self _ _ _
  rw [h, vB_v4, vB_v1]
/-- The second result. -/
theorem vD_v10 : vD W (Proc.devRef .tc main_v10) = zeros (padT (W (Proc.devRef .tc main_arg1))) := by
  unfold vD opsC; after_results; rw [vC_off W _ (by decide), vB_v1]; rfl

end Cert.KernelIdeal.Tile

end
-- ==== Proof.KernelValue.lean ====
/- The program's results over the extended reals: each row's largest entry, scaled by its bin's parameter; and zeros. -/
module

public import proofs.«01_k».proof.Proof.Values

@[expose] public section

set_option maxRecDepth 16384

noncomputable section

namespace Cert.KernelIdeal.Tile

open Cert.KernelIdeal Cert.KernelIdeal.Gen
open Idealize.ShloMosaic

/-- The word of minus infinity reads as the least extended real. -/
theorem ofBits_bot : (FloatOps.ofBits .f32 0xFF800000#32 : Ideal .f32) = (⊥ : EReal) := by
  show Ideal.ofBits .f32 0xFF800000#32 = ⊥
  simp [Ideal.ofBits, Ideal.ieee]

/-- The largest entry of a row of probabilities. -/
def topOf (x : FVec Ideal S16384x1000 .f32) (i : Fin 16384) : EReal := Finset.univ.sup fun k : Fin 1000 => x (ix2 i k)

/-- A block's result holds its columns' largest entries, sixteen rows of a hundred and twenty-eight. -/
theorem pay1_apply (v : FVec Ideal S1000x2048 .f32) (a : Fin 16) (b : Fin 128) (c : Fin 2048) (hc : c.val = 128 * a.val + b.val) :
    k0_pay1 (F := Ideal) v (ix2 a b) = Finset.univ.sup fun k : Fin 1000 => (v (ix2 k c) : EReal) := by
  unfold k0_pay1
  refine (shapeCast_apply _ _ (ix2 a b) (ix1 c) ?_).trans ?_
  · rw [Shape.rowMajor_val_one, Shape.rowMajor_val_two]
    show c.val = a.val * 128 + b.val
    omega
  · rw [shapeCast_self]
    refine (Ideal.multiReduction_maximumf_single _ _ _ _ _ _).trans ?_
    rw [ofBits_bot]
    show Finset.univ.sup _ = _
    refine congrArg (Finset.univ.sup) (funext fun k => congrArg v ?_)
    idx_ext

/-- The reshaped result of the TensorCore call holds each row's largest entry. -/
theorem rowMax_apply (x : FVec Ideal S16384x1000 .f32) (i : Fin 16384) : rowMax (F := Ideal) x (ix1 i) = topOf x i := by
  unfold rowMax
  have hi := i.isLt
  refine (shapeCast_apply _ _ (ix1 i) (ix2 (⟨i.val / 128, by omega⟩ : Fin 128) (⟨i.val % 128, by omega⟩ : Fin 128)) ?_).trans ?_
  · rw [Shape.rowMajor_val_one, Shape.rowMajor_val_two]
    show i.val / 128 * 128 + i.val % 128 = i.val
    omega
  · have e := pay1_apply (colBlk (F := Ideal) (transpose S1000x16384 [1, 0] x transposes_S16384x1000_S1000x16384_1_0)
        (⟨i.val / 128 / 16, by omega⟩ : Fin 8)) (⟨i.val / 128 % 16, by omega⟩ : Fin 16) (⟨i.val % 128, by omega⟩ : Fin 128)
        (⟨i.val % 2048, by omega⟩ : Fin 2048) (by simp only; omega)
    refine Eq.trans ?_ (e.trans ?_)
    · exact congrArg (k0_pay1 (F := Ideal) _) (by idx_ext)
    · refine congrArg (Finset.univ.sup) (funext fun k => ?_)
      show transpose S1000x16384 [1, 0] x transposes_S16384x1000_S1000x16384_1_0 _ = _
      refine transpose_apply _ _ _ _ (ix2 i k) ?_
      intro b
      match b with
      | ⟨0, _⟩ => rfl
      | ⟨1, _⟩ =>
        show i.val = 2048 * (i.val / 128 / 16) + i.val % 2048
        omega

/-- The padded table at a bin is the table there. -/
theorem padT_bin (p : FVec Ideal S10 .f32) (x : EReal) (b : Fin 10) (hb : b.val = (idx1 (F := Ideal) x).toNat) :
    padT (F := Ideal) p (binIx (F := Ideal) x) = p (ix1 b) := by
  unfold padT
  refine concatenate_pair_apply_left 0 p _ _ (binIx (F := Ideal) x) rfl (ix1 b) ?_
  intro c
  match c with
  | ⟨0, _⟩ => exact hb

/-- The bin of an extended real, as a place in the table of ten. -/
def bin10 (x : EReal) : Fin 10 := ⟨(idx1 (F := Ideal) x).toNat, by have := idx1_le (F := Ideal) x; omega⟩

/-- The first result over the extended reals. -/
def outAll (x : FVec Ideal S16384x1000 .f32) (p : FVec Ideal S10 .f32) : FVec Ideal S16384 .f32 := fun j =>
  out1 (F := Ideal) (topOf x (j 0)) (p (ix1 (bin10 (topOf x (j 0)))))

/-- The kernel's first result over the extended reals. -/
theorem resAll_ideal (x : FVec Ideal S16384x1000 .f32) (p : FVec Ideal S10 .f32) :
    resAll (F := Ideal) (rowMax x) (padT p) = outAll x p := by
  funext j
  unfold resAll outAll val
  have h : rowMax (F := Ideal) x j = topOf x (j 0) := by
    rw [show j = ix1 (n0 := 16384) (j 0) from eq_ix1 j]; exact rowMax_apply x _
  rw [h, padT_bin p (topOf x (j 0)) (bin10 (topOf x (j 0))) rfl]

/-- The kernel's second result over the extended reals is zero everywhere. -/
theorem zeros_ideal (t : FVec Ideal S16 .f32) (j : S16384x1000.Idx) : zeros (F := Ideal) t j = (0 : EReal) := by
  have h : ∀ a : FVec Ideal S_ .f32, mulf a (constant S_ .f32 0x00000000#32) = fun _ => (0 : EReal) := fun a => funext fun i => by
    show (a i : EReal) * Ideal.ofBits .f32 0x00000000#32 = 0
    rw [Ideal.ofBits_zero_f32, mul_zero]
  unfold zeros
  rw [h]
  rfl

end Cert.KernelIdeal.Tile

end
-- ==== Proof.RefValue.lean ====
/- The reference's first result over the extended reals, stage by stage: the largest entry of a row by sorting, the number of
   edges below it, the table's parameter at that bin, the scaled entry. Each stage is read at one index and found to be the
   kernel's. -/
module

public import proofs.«01_k».proof.Proof.KernelValue
public import proofs.«01_k».proof.Proof.Gen.ReferenceIdeal.Run
public import Idealize.ShloMosaic.Lib.SortFacts

@[expose] public section

set_option maxRecDepth 16384

noncomputable section

namespace Cert.ReferenceIdeal.Stages

open Cert.ReferenceIdeal Cert.ReferenceIdeal.Gen
open Idealize.ShloMosaic
open Cert.KernelIdeal.Tile (topOf idx1 cnt1 step1 edges bin10 outAll out1 clip_le)

/-! ## The stages -/

/-- The first entry of each row sorted and reversed. -/
def first (x : FVec Ideal S16384x1000 .f32) : FVec Ideal S16384 .f32 :=
  shapeCast _ (extractStridedSlice S16384x1 ![0, 0] (Host.reverse [1] (Host.sort S16384x1000 1 comparator_f32_d1 x)) slices_S16384x1000_S16384x1_0_0) shapeCasts_S16384x1_S16384
/-- Whether each of the eleven edges is below each entry. -/
def below (v : FVec Ideal S16384 .f32) : IVec S16384x11 1 :=
  cmpf .olt (broadcastInDim S16384x11 ![0, 1] bcast_S1x11_S16384x11_0_1 (broadcastInDim S1x11 ![1] bcast_S11_S1x11_1 ((fun i => (FloatOps.ofBits .f32 (lit0 (S11.rowMajor i)) : Ideal .f32)))))
    (broadcastInDim S16384x11 ![0, 1] bcast_S16384x1_S16384x11_0_1 (broadcastInDim S16384x1 ![0] bcast_S16384_S16384x1_0 v))
/-- The number of edges below each entry. -/
def count (v : FVec Ideal S16384 .f32) : IVec S16384 32 :=
  Host.reduce IntOp.addi (extui 32 (below v) natLt_1_32) (constantI S_ 32 0#32) reducesTo_S16384x11_S16384_d1 h_S_
/-- The bins. -/
def bins (v : FVec Ideal S16384 .f32) : IVec S16384 32 :=
  minsi (broadcastInDim S16384 ![] bcast_S_S16384 (id (constantI S_ 32 9#32)))
    (maxsi (broadcastInDim S16384 ![] bcast_S_S16384 (id (constantI S_ 32 0#32)))
      (subi (count v) (broadcastInDim S16384 ![] bcast_S_S16384 (constantI S_ 32 1#32))))
/-- The bins as a column of indices, a negative one moved up by ten. -/
def column (b : IVec S16384 32) : IVec S16384x1 32 :=
  broadcastInDim S16384x1 ![0] bcast_S16384_S16384x1_0
    (select (cmpi .slt b (broadcastInDim S16384 ![] bcast_S_S16384 (constantI S_ 32 0#32))) (addi b (broadcastInDim S16384 ![] bcast_S_S16384 (constantI S_ 32 10#32))) b)
/-- Whether each index lies in the table. -/
def inside (k : IVec S16384x1 32) : IVec S16384 1 :=
  Host.reduce IntOp.andi (andi (cmpi .sge k (broadcastInDim S16384x1 ![] bcast_S_S16384x1 (constantI S_ 32 0#32)))
    (cmpi .sle k (broadcastInDim S16384x1 ![0, 1] bcast_S1x1_S16384x1_0_1 (broadcastInDim S1x1 ![1] bcast_S1_S1x1_1 (constantI S1 32 9#32))))) (constantI S_ 1 1#1) reducesTo_S16384x1_S16384_d1 h_S_
/-- The table's parameter at each index. -/
def params (k : IVec S16384x1 32) (p : FVec Ideal S10 .f32) : FVec Ideal S16384 .f32 :=
  select (inside k) (Host.gather gather_S10_S16384x1_S16384_n_0_n_n_0_1_1 p k) (broadcastInDim S16384 ![] bcast_S_S16384 (constant S_ .f32 0x7FC00000#32))
/-- Each entry scaled by its parameter. -/
def scaled (v s : FVec Ideal S16384 .f32) : FVec Ideal S16384 .f32 :=
  mulf v (Host.divf (broadcastInDim S16384 ![] bcast_S_S16384 (constant S_ .f32 0x3F800000#32))
    (minimumf (broadcastInDim S16384 ![] bcast_S_S16384 (id (constant S_ .f32 0x42C80000#32)))
      (maximumf (broadcastInDim S16384 ![] bcast_S_S16384 (id (constant S_ .f32 0x3C23D70A#32))) (mulf s s))))

/-- The reference's first result is the stages' composition. -/
theorem res_eq (m : (ℓ : Loc nD τ sig) → Buf (Elt Ideal) ℓ) (c : Dev nD) :
    Value.res_main_v20 m c = scaled (first (m ((c.tc : Thread nD τ).loc main_arg0)))
      (params (column (bins (first (m ((c.tc : Thread nD τ).loc main_arg0))))) (m ((c.tc : Thread nD τ).loc main_arg1))) := by
  unfold Value.res_main_v20 scaled params inside column bins count below first
  rfl

/-! ## The largest entry -/

/-- A word compared equal to zero and replaced by it is unchanged. -/
theorem zero_or (y : EReal) :
    Scalar.select (Ideal.cmp .oeq y (Ideal.ofBits .f32 0x00000000#32)) (Ideal.ofBits .f32 0x00000000#32) y = y := by
  rw [Ideal.ofBits_zero_f32]
  by_cases h : y = 0
  · subst h; simp [Scalar.select, Ideal.cmp]
  · simp [Scalar.select, Ideal.cmp, h]
/-- No extended real differs from itself. -/
theorem not_une (y n w : EReal) : Scalar.select (Ideal.cmp .une y y) n w = w := by
  simp [Scalar.select, Ideal.cmp]

/-- The sort's comparison is the order of the extended reals. -/
theorem before_eq (l r : EReal) : comparator_f32_d1 (F := Ideal) l r = BitVec.ofBool (decide (l < r)) := by
  show Ideal.cmp .olt
      (Scalar.select (Ideal.cmp .une l l) (Ideal.ofBits .f32 0x7FC00000#32)
        (Scalar.select (Ideal.cmp .oeq l (Ideal.ofBits .f32 0x00000000#32)) (Ideal.ofBits .f32 0x00000000#32) l))
      (Scalar.select (Ideal.cmp .une r r) (Ideal.ofBits .f32 0x7FC00000#32)
        (Scalar.select (Ideal.cmp .oeq r (Ideal.ofBits .f32 0x00000000#32)) (Ideal.ofBits .f32 0x00000000#32) r)) = _
  rw [not_une, not_une, zero_or, zero_or]
  rfl

/-- Whether one entry of a line goes before another. -/
def goes {n : ℕ} (f : Fin n → EReal) (k k' : Fin n) : Bool := comparator_f32_d1 (F := Ideal) (f k) (f k') == 1#1

theorem goes_eq {n : ℕ} (f : Fin n → EReal) (k k' : Fin n) : goes f k k' = decide (f k < f k') := by
  unfold goes
  rw [before_eq]
  by_cases h : f k < f k' <;> simp [h]

/-- The last entry of a sorted line is the line's largest. -/
theorem last_sup {n : ℕ} (f : Fin n → EReal) (q : Fin n) (hq : ∀ k : Fin n, k ≤ q) :
    f (sortedFrom (goes f) q) = Finset.univ.sup f := by
  refine le_antisymm (Finset.le_sup (Finset.mem_univ _)) (Finset.sup_le fun k _ => ?_)
  obtain ⟨k', rfl⟩ := sortedFrom_surjective (goes f) k
  rcases (hq k').lt_or_eq with h | rfl
  · have hn := sortedFrom_noInversion (goes f) (goes f) (fun a b hab => ?_) (fun _ _ h => h) (fun a b c hab hbc => ?_) k' q h
    · rw [goes_eq] at hn
      exact not_lt.1 (of_decide_eq_false hn)
    · rw [goes_eq] at hab ⊢
      exact decide_eq_false (not_lt.2 (le_of_lt (of_decide_eq_true hab)))
    · rw [goes_eq] at hab hbc ⊢
      exact decide_eq_false (not_lt.2 ((not_lt.1 (of_decide_eq_false hbc)).trans (not_lt.1 (of_decide_eq_false hab))))
  · exact le_rfl

/-- A sort along the second of two axes, at one index. -/
theorem sort_apply {n0 n1 : ℕ} (x : (⟨2, ![n0, n1]⟩ : Shape).Idx → EReal) (i : Fin n0) (q : Fin n1) :
    Host.sort ⟨2, ![n0, n1]⟩ 1 (comparator_f32_d1 (F := Ideal)) x (ix2 i q)
      = x (ix2 i (sortedFrom (goes fun k => x (ix2 i k)) q)) := by
  have hal : ∀ k : Fin n1, Shape.Idx.along (s := ⟨2, ![n0, n1]⟩) (ix2 i q) 1 k = ix2 i k := by
    intro k; funext a
    match a with
    | ⟨0, _⟩ => rfl
    | ⟨1, _⟩ => rfl
  have hg : (goes fun k => x (ix2 i k)) = fun k k' : Fin n1 =>
      comparator_f32_d1 (F := Ideal) (x (Shape.Idx.along (s := ⟨2, ![n0, n1]⟩) (ix2 i q) 1 k))
        (x (Shape.Idx.along (s := ⟨2, ![n0, n1]⟩) (ix2 i q) 1 k')) == 1#1 := by
    funext k k'; rw [hal, hal]; rfl
  rw [hg]
  exact congrArg x (hal _)

/-- The first entry of a row sorted and reversed is the row's largest. -/
theorem first_apply (x : FVec Ideal S16384x1000 .f32) (i : Fin 16384) : first x (ix1 i) = topOf x i := by
  unfold first
  refine (shapeCast_apply _ _ (ix1 i) (ix2 i (0 : Fin 1)) ?_).trans ?_
  · rw [Shape.rowMajor_val_one, Shape.rowMajor_val_two]
    show i.val * 1 + 0 = i.val
    omega
  · refine Eq.trans ?_ ((sort_apply x i (999 : Fin 1000)).trans (last_sup (fun k => x (ix2 i k)) 999 fun k => ?_))
    · unfold extractStridedSlice Host.reverse
      refine congrArg (Host.sort S16384x1000 1 (comparator_f32_d1 (F := Ideal)) x) ?_
      idx_ext
    · exact Fin.le_def.2 (by have := k.isLt; show k.val ≤ 999; omega)

/-! ## The bins -/

/-- One step of the kernel's count adds the comparison's bit. -/
theorem step1_eq (x : EReal) (e c : BitVec 32) :
    step1 (F := Ideal) x e c = c + (Ideal.cmp .olt (Ideal.ofBits .f32 e) x).zeroExtend 32 := by
  unfold step1
  show c + (if Ideal.cmp .ogt x (Ideal.ofBits .f32 e) = 1#1 then 1#32 else 0#32) = _
  by_cases h : Ideal.ofBits .f32 e < x <;> simp [Ideal.cmp, h]

/-- The number of edges below an entry is the kernel's count. -/
theorem count_apply (v : FVec Ideal S16384 .f32) (i : Fin 16384) : count v (ix1 i) = cnt1 (F := Ideal) (v (ix1 i)) := by
  have h : S16384x11.Reduces [1] S16384 := by decide
  unfold count
  rw [Host.reduce_eq_fold_single IntOp.addi _ _ _ h]
  have hb : ∀ k : Fin 11, extui 32 (below v) natLt_1_32 (h.lift (ix1 i) k)
      = (Ideal.cmp .olt (Ideal.ofBits .f32 (lit0 k)) (v (ix1 i))).zeroExtend 32 := by
    intro k
    have hl : h.lift (ix1 i) k = ix2 i k := by idx_ext
    rw [hl]
    unfold below
    show (Ideal.cmp .olt _ _).zeroExtend 32 = _
    congr 2
    · refine (broadcastInDim_apply _ _ _ (ix2 i k) (ix2 (0 : Fin 1) k) ?_).trans ?_
      · intro a
        match a with
        | ⟨0, _⟩ => rfl
        | ⟨1, _⟩ => rfl
      · refine (broadcastInDim_apply _ _ _ (ix2 (0 : Fin 1) k) (ix1 k) ?_).trans ?_
        · intro a
          match a with
          | ⟨0, _⟩ => rfl
        · show Ideal.ofBits .f32 (lit0 (S11.rowMajor (ix1 k))) = _
          exact congrArg (fun q => Ideal.ofBits .f32 (lit0 q)) (Fin.ext (Shape.rowMajor_val_one _))
    · refine (broadcastInDim_apply _ _ _ (ix2 i k) (ix2 i (0 : Fin 1)) ?_).trans ?_
      · intro a
        match a with
        | ⟨0, _⟩ => rfl
        | ⟨1, _⟩ => rfl
      · refine broadcastInDim_apply _ _ _ (ix2 i (0 : Fin 1)) (ix1 i) ?_
        intro a
        match a with
        | ⟨0, _⟩ => rfl
  have hs : ∀ f : Fin 11 → BitVec 32, (Finset.univ : Finset (Fin 11)).fold IntOp.addi (0#32) f
      = ([0, 1, 2, 3, 4, 5, 6, 7, 8, 9, 10].map f).foldr (fun a b => a + b) 0#32 := fun _ => rfl
  have he : ([0, 1, 2, 3, 4, 5, 6, 7, 8, 9, 10].map (extui 32 (below v) natLt_1_32 ∘ h.lift (ix1 i) : Fin 11 → BitVec 32))
      = [0, 1, 2, 3, 4, 5, 6, 7, 8, 9, 10].map fun k : Fin 11 => (Ideal.cmp .olt (Ideal.ofBits .f32 (lit0 k)) (v (ix1 i))).zeroExtend 32 :=
    congrArg (fun f : Fin 11 → BitVec 32 => [0, 1, 2, 3, 4, 5, 6, 7, 8, 9, 10].map f) (funext hb)
  refine (hs _).trans ((congrArg (List.foldr (fun a b => a + b) 0#32) he).trans ?_)
  unfold cnt1 edges
  simp only [List.map_cons, List.map_nil, List.foldr_cons, List.foldr_nil, step1_eq, BitVec.add_assoc, BitVec.zero_add, BitVec.add_zero]
  rfl

/-- A word kept between 0 and 9 is the number it is read as. -/
theorem clip_toInt (w : BitVec 32) :
    (IntOp.minsi 9#32 (IntOp.maxsi 0#32 w)).toInt = ((IntOp.minsi 9#32 (IntOp.maxsi 0#32 w)).toNat : ℤ) := by
  have h := clip_le w
  generalize IntOp.minsi 9#32 (IntOp.maxsi 0#32 w) = u at h ⊢
  rw [BitVec.toInt_eq_toNat_cond]
  split <;> omega

/-- The bins are the kernel's. -/
theorem bins_apply (v : FVec Ideal S16384 .f32) (i : Fin 16384) : bins v (ix1 i) = idx1 (F := Ideal) (v (ix1 i)) := by
  show IntOp.minsi 9#32 (IntOp.maxsi 0#32 (count v (ix1 i) - 1#32)) = _
  rw [count_apply]
  rfl

/-! ## The parameter -/

/-- A bin that is not negative stays. -/
theorem column_apply (b : IVec S16384 32) (i : Fin 16384) (h : 0 ≤ (b (ix1 i)).toInt) (z : Fin 1) : column b (ix2 i z) = b (ix1 i) := by
  unfold column
  refine (broadcastInDim_apply _ _ _ (ix2 i z) (ix1 i) ?_).trans ?_
  · intro a
    match a with
    | ⟨0, _⟩ => rfl
  · show Scalar.select (IntOp.cmpi .slt (b (ix1 i)) 0#32) (b (ix1 i) + 10#32) (b (ix1 i)) = _
    have hs : (b (ix1 i)).slt 0#32 = false := by
      rw [BitVec.slt_eq_decide]
      exact decide_eq_false (by rw [show (0#32).toInt = 0 by decide]; omega)
    show Scalar.select (BitVec.ofBool ((b (ix1 i)).slt 0#32)) _ _ = _
    rw [hs]
    rfl

/-- An index between 0 and 9 lies in the table. -/
theorem inside_apply (k : IVec S16384x1 32) (i : Fin 16384) (h0 : 0 ≤ (k (ix2 i 0)).toInt) (h9 : (k (ix2 i 0)).toInt ≤ 9) :
    inside k (ix1 i) = 1#1 := by
  have h : S16384x1.Reduces [1] S16384 := by decide
  unfold inside
  rw [Host.reduce_eq_fold_single IntOp.andi _ _ _ h]
  have hs : ∀ f : Fin 1 → BitVec 1, (Finset.univ : Finset (Fin 1)).fold IntOp.andi (1#1) f = f 0 &&& 1#1 := fun _ => rfl
  refine (hs _).trans ?_
  have hl : h.lift (ix1 i) (0 : Fin 1) = ix2 i (0 : Fin 1) := by idx_ext
  show (andi _ _ (h.lift (ix1 i) (0 : Fin 1))) &&& 1#1 = 1#1
  rw [hl]
  show (BitVec.ofBool ((0#32).sle (k (ix2 i 0))) &&& BitVec.ofBool ((k (ix2 i 0)).sle 9#32)) &&& 1#1 = 1#1
  have e0 : (0#32).sle (k (ix2 i 0)) = true := by
    rw [BitVec.sle_eq_decide]; exact decide_eq_true (by rw [show (0#32).toInt = 0 by decide]; exact h0)
  have e9 : (k (ix2 i 0)).sle 9#32 = true := by
    rw [BitVec.sle_eq_decide]; exact decide_eq_true (by rw [show (9#32).toInt = 9 by decide]; exact h9)
  rw [e0, e9]
  decide

/-- The indexed read takes the table's entry at the index. -/
theorem gather_apply (k : IVec S16384x1 32) (p : FVec Ideal S10 .f32) (i : Fin 16384) (b : Fin 10)
    (hb : (k (ix2 i 0)).toInt = (b.val : ℤ)) :
    Host.gather gather_S10_S16384x1_S16384_n_0_n_n_0_1_1 p k (ix1 i) = p (ix1 b) := by
  unfold Host.gather
  refine congrArg p (funext fun a => Fin.ext ?_)
  match a with
  | ⟨0, _⟩ =>
    have hi : gather_S10_S16384x1_S16384_n_0_n_n_0_1_1.siIdx (ix1 i) ⟨0, by decide⟩ = ix2 i (0 : Fin 1) := by idx_ext
    have hlt := b.isLt
    show min (k (gather_S10_S16384x1_S16384_n_0_n_n_0_1_1.siIdx (ix1 i) ⟨0, by decide⟩)).toInt.toNat 9 + 0 + 0 = b.val
    rw [hi, hb]
    omega

/-- A selection where the condition is the word one is the first of the two. -/
theorem pick_apply {s : Shape} (c : IVec s 1) (a b : s.Idx → EReal) (i : s.Idx) (h : c i = 1#1) : select c a b i = a i := by
  show Scalar.select (c i) (a i) (b i) = a i
  rw [h]; rfl

/-- The parameter of an entry is the table's at the kernel's bin. -/
theorem params_apply (v : FVec Ideal S16384 .f32) (p : FVec Ideal S10 .f32) (i : Fin 16384) :
    params (column (bins v)) p (ix1 i) = p (ix1 (bin10 (v (ix1 i)))) := by
  have hb := bins_apply v i
  have hle := clip_le (cnt1 (F := Ideal) (v (ix1 i)) - 1#32)
  have hint : (bins v (ix1 i)).toInt = ((bin10 (v (ix1 i))).val : ℤ) := by
    rw [hb]; exact clip_toInt _
  have h9 : (bin10 (v (ix1 i))).val < 10 := (bin10 (v (ix1 i))).isLt
  have hc : ∀ z, column (bins v) (ix2 i z) = bins v (ix1 i) := column_apply _ i (by omega)
  have hin : inside (column (bins v)) (ix1 i) = 1#1 := inside_apply _ i (by rw [hc]; omega) (by rw [hc]; omega)
  have hg := gather_apply (column (bins v)) p i (bin10 (v (ix1 i))) (by rw [hc]; exact hint)
  unfold params
  exact (pick_apply _ _ _ _ hin).trans hg

/-! ## The result -/

/-- The reference's first result is the kernel's. -/
theorem scaled_eq (x : FVec Ideal S16384x1000 .f32) (p : FVec Ideal S10 .f32) :
    scaled (first x) (params (column (bins (first x))) p) = outAll x p := by
  funext j
  obtain ⟨i, rfl⟩ : ∃ i : Fin 16384, j = ix1 i := ⟨j 0, eq_ix1 j⟩
  show out1 (F := Ideal) (first x (ix1 i)) (params (column (bins (first x))) p (ix1 i)) = out1 (F := Ideal) (topOf x i) (p (ix1 (bin10 (topOf x i))))
  rw [params_apply, first_apply]

end Cert.ReferenceIdeal.Stages

end
-- ==== Proof.lean ====
/- The proof of the claims: the kernel's run over any float values (Proof/Launch.lean) read at its arguments and results
   (Proof/Values.lean), its results over the extended reals (Proof/KernelValue.lean), and the reference's (Proof/RefValue.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Values
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem
open Cert.KernelIdeal.Tile (QC run_main vD_arg0 vD_arg1 vD_v5 vD_v10 w₀ outAll resAll_ideal zeros_ideal)

set_option maxRecDepth 65536 in
/-- The two printings of the kernel give each label the same body. -/
theorem bodies_eq : @Cert.Kernel.defs₀ Bits _ _ = @Cert.KernelIdeal.defs₀ Bits _ _ := by
  funext p ℓ a
  match p, ℓ with
  | .tc, ⟨0, _⟩ => rfl
  | .tc, ⟨1, _⟩ => rfl
  | .scScalar _, ⟨0, _⟩ => rfl
  | .scScalar _, ⟨1, _⟩ => rfl
  | .scVector _ _, ⟨0, _⟩ => rfl
  | .scVector _ _, ⟨1, _⟩ => rfl

/-- The two printings of the kernel have the same body table. -/
theorem tables_eq : @Cert.Kernel.defs Bits _ _ = @Cert.KernelIdeal.defs Bits _ _ := by
  unfold Cert.Kernel.defs Cert.KernelIdeal.defs
  rw [← bodies_eq]
  rfl

/-- The kernel over machine words runs, leaves its arguments as they were and every semaphore counter at zero. -/
theorem frame_kernel : Cert.quiescent_Kernel := by
  intro m ρ _
  rw [tables_eq]
  exact (θ_run (Cert.KernelIdeal.defs (F := Bits)) (Cert.KernelIdeal.threads (F := Bits)) _).mono
    (fun _ h => ⟨fun c => ⟨(h.1 c (Proc.devRef .tc Cert.KernelIdeal.main_arg0) (by decide)).trans (vD_arg0 _),
      (h.1 c (Proc.devRef .tc Cert.KernelIdeal.main_arg1) (by decide)).trans (vD_arg1 _)⟩, h.2⟩)
    (run_main (F := Bits) m ρ)

/-- The kernel over the extended reals runs, leaves its arguments as they were and every semaphore counter at zero. -/
theorem frame_ideal : Cert.quiescent_KernelIdeal := fun m ρ _ =>
  (θ_run Cert.KernelIdeal.defs _ _).mono
    (fun _ h => ⟨fun c => ⟨(h.1 c (Proc.devRef .tc Cert.KernelIdeal.main_arg0) (by decide)).trans (vD_arg0 _),
      (h.1 c (Proc.devRef .tc Cert.KernelIdeal.main_arg1) (by decide)).trans (vD_arg1 _)⟩, h.2⟩)
    (run_main (F := Ideal) m ρ)

/-- The reference runs, leaves its arguments as they were and every semaphore counter at zero. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The kernel and the reference have the same two results over the extended reals. -/
theorem same_results : Cert.algebraic_KernelIdeal_ReferenceIdeal := by
  intro m ρ m' ρ' _ hagree
  refine ⟨fun c => outAll (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), fun _ _ => (0 : EReal), ?_, ?_⟩
  · refine (θ_run Cert.KernelIdeal.defs _ _).mono (fun _ h c => ⟨?_, ?_, ?_, ?_⟩) (run_main (F := Ideal) m ρ)
    · exact (h.1 c (Proc.devRef .tc Cert.KernelIdeal.main_v5) (by decide)).trans ((vD_v5 _).trans (resAll_ideal _ _))
    · exact (h.1 c (Proc.devRef .tc Cert.KernelIdeal.main_v10) (by decide)).trans ((vD_v10 _).trans (funext fun j => zeros_ideal _ j))
    · exact (h.1 c (Proc.devRef .tc Cert.KernelIdeal.main_arg0) (by decide)).trans (vD_arg0 _)
    · exact (h.1 c (Proc.devRef .tc Cert.KernelIdeal.main_arg1) (by decide)).trans (vD_arg1 _)
  · refine (θ_run Cert.ReferenceIdeal.defs _ _).mono (fun _ h c => ⟨?_, ?_, (h c).2.2⟩) (Cert.ReferenceIdeal.Value.run (F := Ideal) m' ρ')
    · refine (h c).1.trans ((Cert.ReferenceIdeal.Stages.res_eq m' c).trans ((Cert.ReferenceIdeal.Stages.scaled_eq _ _).trans ?_))
      exact congrArg₂ outAll (hagree c).1 (hagree c).2
    · refine (h c).2.1.trans (funext fun j => ?_)
      show Ideal.ofBits .f32 0x00000000#32 = 0
      exact Ideal.ofBits_zero_f32

/-- The claims. -/
theorem claim : Cert.Claim :=
  ⟨Cert.Kernel.Gen.facts, Cert.KernelIdeal.Gen.facts, Cert.ReferenceIdeal.Gen.facts,
    frame_kernel, frame_ideal, frame_reference, trivial, same_results⟩

end Cert.Proof

end
